-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_covariates_in_range [hPre_covariates_in_range : Cert.Pre_covariates_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_covariates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_covariates_in_range [hPre_covariates_in_range : Cert.Pre_covariates_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_covariates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_covariates_in_range [hKernelIdeal : Cert.KernelIdeal.Facts] [hPre_covariates_in_range : Cert.Pre_covariates_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_covariates_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_covariates_in_range [hReferenceIdeal : Cert.ReferenceIdeal.Facts] [hPre_covariates_in_range : Cert.Pre_covariates_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_covariates_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_covariates_in_range [hKernelIdeal : Cert.KernelIdeal.Facts] [hReferenceIdeal : Cert.ReferenceIdeal.Facts] [hPre_covariates_in_range : Cert.Pre_covariates_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_covariates_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_covariates_in_range : Cert.Pre_covariates_in_range.Facts),
    quiescent_Kernel (hKernel := hKernel)
    ∧ quiescent_KernelIdeal (hKernelIdeal := hKernelIdeal)
    ∧ quiescent_KernelIdeal_pre_covariates_in_range (hKernelIdeal := hKernelIdeal) (hPre_covariates_in_range := hPre_covariates_in_range)
    ∧ quiescent_ReferenceIdeal (hReferenceIdeal := hReferenceIdeal)
    ∧ quiescent_ReferenceIdeal_pre_covariates_in_range (hReferenceIdeal := hReferenceIdeal) (hPre_covariates_in_range := hPre_covariates_in_range)
    ∧ preserves_Kernel_KernelIdeal
    ∧ algebraic_KernelIdeal_ReferenceIdeal_pre_covariates_in_range (hKernelIdeal := hKernelIdeal) (hReferenceIdeal := hReferenceIdeal) (hPre_covariates_in_range := hPre_covariates_in_range)
-- ==== Pre_covariates_in_range.lean ====
abbrev S128x3x224x224 : Shape := ⟨4, ![128, 3, 224, 224]⟩
abbrev S128x196x768 : Shape := ⟨3, ![128, 196, 768]⟩
abbrev S128 : Shape := ⟨1, ![128]⟩
abbrev S768x768 : Shape := ⟨2, ![768, 768]⟩
abbrev S768 : Shape := ⟨1, ![768]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x3x224x224 .f32) (main_arg1 : FVec F S128x196x768 .f32) (main_arg2 : IVec S128 32) (main_arg3 : FVec F S768x768 .f32) (main_arg4 : FVec F S768 .f32) : IVec S128 1 :=
  let main_c : IVec S_ 32 := constantI S_ 32 0#32
  let main_v0 : IVec S128 32 := broadcastInDim S128 ![] bcast_S_S128 main_c
  let main_v1 : IVec S128 1 := cmpi .sge main_arg2 main_v0
  let main_c_0 : IVec S_ 32 := constantI S_ 32 8#32
  let main_v2 : IVec S128 32 := broadcastInDim S128 ![] bcast_S_S128 main_c_0
  let main_v3 : IVec S128 1 := cmpi .slt main_arg2 main_v2
  let main_v4 : IVec S128 1 := andi main_v1 main_v3
  main_v4
-- ==== Kernel.lean ====
abbrev S128x3x224x224 : Shape := ⟨4, ![128, 3, 224, 224]⟩
abbrev S128x196x768 : Shape := ⟨3, ![128, 196, 768]⟩
abbrev S128 : Shape := ⟨1, ![128]⟩
abbrev S768x768 : Shape := ⟨2, ![768, 768]⟩
abbrev S768 : Shape := ⟨1, ![768]⟩
abbrev S1x128 : Shape := ⟨2, ![1, 128]⟩
abbrev S128x197x768 : Shape := ⟨3, ![128, 197, 768]⟩
abbrev S128x768 : Shape := ⟨2, ![128, 768]⟩
abbrev S5x8x196x768 : Shape := ⟨4, ![5, 8, 196, 768]⟩
abbrev S5x8x197x768 : Shape := ⟨4, ![5, 8, 197, 768]⟩
abbrev S5 : Shape := ⟨1, ![5]⟩
abbrev S_ : Shape := ⟨0, ![]⟩
abbrev S8x768 : Shape := ⟨2, ![8, 768]⟩
abbrev S1x8x1x768 : Shape := ⟨4, ![1, 8, 1, 768]⟩
abbrev S1 : Shape := ⟨1, ![1]⟩
abbrev S1x8x196x768 : Shape := ⟨4, ![1, 8, 196, 768]⟩
abbrev S8x196x768 : Shape := ⟨3, ![8, 196, 768]⟩
abbrev S8x197x768 : Shape := ⟨3, ![8, 197, 768]⟩
abbrev S1x8x197x768 : Shape := ⟨4, ![1, 8, 197, 768]⟩
abbrev S1x768 : Shape := ⟨2, ![1, 768]⟩
abbrev S8x128 : Shape := ⟨2, ![8, 128]⟩
abbrev S8 : Shape := ⟨1, ![8]⟩
abbrev S8x1 : Shape := ⟨2, ![8, 1]⟩
abbrev S128x1x768 : Shape := ⟨3, ![128, 1, 768]⟩

abbrev nBuf : Space → Nat
  | .hbm => 10
  | .vmem => 8
  | .smem => 0
  | _ => 0

abbrev bufTy : (tb : Table) → Fin (tcTables nBuf tb) → BufTy
  | .hbm, ⟨0, _⟩ => ⟨S128x3x224x224, .f32⟩
  | .hbm, ⟨1, _⟩ => ⟨S128x196x768, .f32⟩
  | .hbm, ⟨2, _⟩ => ⟨S128, .i32⟩
  | .hbm, ⟨3, _⟩ => ⟨S768x768, .f32⟩
  | .hbm, ⟨4, _⟩ => ⟨S768, .f32⟩
  | .hbm, ⟨5, _⟩ => ⟨S1x128, .i32⟩
  | .hbm, ⟨6, _⟩ => ⟨S128x197x768, .f32⟩
  | .hbm, ⟨7, _⟩ => ⟨S128x768, .f32⟩
  | .hbm, ⟨8, _⟩ => ⟨S1x768, .f32⟩
  | .hbm, ⟨9, _⟩ => ⟨S128x197x768, .f32⟩
  | .local _ .vmem, ⟨0, _⟩ => ⟨S5x8x196x768, .f32⟩
  | .local _ .vmem, ⟨1, _⟩ => ⟨S5x8x197x768, .f32⟩
  | .local _ .vmem, ⟨2, _⟩ => ⟨S128x768, .f32⟩
  | .local _ .vmem, ⟨3, _⟩ => ⟨S128x768, .f32⟩
  | .local _ .vmem, ⟨4, _⟩ => ⟨S1x128, .i32⟩
  | .local _ .vmem, ⟨5, _⟩ => ⟨S768x768, .f32⟩
  | .local _ .vmem, ⟨6, _⟩ => ⟨S1x768, .f32⟩
  | .local _ .vmem, ⟨7, _⟩ => ⟨S128x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_scratch0 : Ref sig .tc := ⟨.vmem, 7, rfl⟩
abbrev cc1_sem0_0 : DmaSem sig := 11
abbrev cc1_sem1_0 : DmaSem sig := 12
abbrev cc1_sem2_0 : DmaSem sig := 13
abbrev cc1_sem3_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_48 : BitVec 32) : Fin 1 → Nat :=
  let c5_i32_49 : BitVec 32 := 5#32
  let v63 : BitVec 32 := Scalar.remsi c0_i32_48 c5_i32_49
  ![v63.toNat]
def k0_off2 (c0_i32_48 : BitVec 32) : Fin 4 → Nat :=
  let c5_i32_49 : BitVec 32 := 5#32
  let v63 : BitVec 32 := Scalar.remsi c0_i32_48 c5_i32_49
  let c0_i32_50 : BitVec 32 := 0#32
  let c0_i32_51 : BitVec 32 := 0#32
  let c0_i32_52 : BitVec 32 := 0#32
  ![v63.toNat, 0, 0, 0]
def k0_cond2 (i : grid0.Coords) : BitVec 1 :=
  let arg0 : BitVec 32 := BitVec.ofNat 32 (i 0).val
  let c5_i32 : BitVec 32 := 5#32
  let v3 : BitVec 32 := Scalar.addi arg0 c5_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_off3 (i : grid0.Coords) : Fin 1 → Nat :=
  let arg0 : BitVec 32 := BitVec.ofNat 32 (i 0).val
  let c5_i32_26 : BitVec 32 := 5#32
  let v43 : BitVec 32 := Scalar.addi arg0 c5_i32_26
  let c1_i32_27 : BitVec 32 := 1#32
  let v44 : BitVec 32 := Scalar.subi v43 c1_i32_27
  let c5_i32_28 : BitVec 32 := 5#32
  let v45 : BitVec 32 := Scalar.remsi v44 c5_i32_28
  ![v45.toNat]
def k0_off4 (i : grid0.Coords) : Fin 4 → Nat :=
  let arg0 : BitVec 32 := BitVec.ofNat 32 (i 0).val
  let c5_i32_26 : BitVec 32 := 5#32
  let v43 : BitVec 32 := Scalar.addi arg0 c5_i32_26
  let c1_i32_27 : BitVec 32 := 1#32
  let v44 : BitVec 32 := Scalar.subi v43 c1_i32_27
  let c5_i32_28 : BitVec 32 := 5#32
  let v45 : BitVec 32 := Scalar.remsi v44 c5_i32_28
  let c0_i32_30 : BitVec 32 := 0#32
  let c0_i32_31 : BitVec 32 := 0#32
  let c0_i32_32 : BitVec 32 := 0#32
  ![v45.toNat, 0, 0, 0]
def k0_off5 (i : grid0.Coords) : Fin 3 → Nat :=
  let arg0 : BitVec 32 := BitVec.ofNat 32 (i 0).val
  let c5_i32_26 : BitVec 32 := 5#32
  let v43 : BitVec 32 := Scalar.addi arg0 c5_i32_26
  let c1_i32_27 : BitVec 32 := 1#32
  let v44 : BitVec 32 := Scalar.subi v43 c1_i32_27
  let c8_i32_29 : BitVec 32 := 8#32
  let v46 : BitVec 32 := Scalar.muli v44 c8_i32_29
  let c0_i32_33 : BitVec 32 := 0#32
  let c0_i32_34 : BitVec 32 := 0#32
  ![v46.toNat, 0, 0]
def k0_off6 (i : grid0.Coords) : Fin 1 → Nat :=
  let arg0 : BitVec 32 := BitVec.ofNat 32 (i 0).val
  let c5_i32_2 : BitVec 32 := 5#32
  let v8 : BitVec 32 := Scalar.remsi arg0 c5_i32_2
  ![v8.toNat]
def k0_off7 (i : grid0.Coords) : Fin 4 → Nat :=
  let arg0 : BitVec 32 := BitVec.ofNat 32 (i 0).val
  let c5_i32_2 : BitVec 32 := 5#32
  let v8 : BitVec 32 := Scalar.remsi arg0 c5_i32_2
  let c0_i32_3 : BitVec 32 := 0#32
  let c0_i32_4 : BitVec 32 := 0#32
  let c0_i32_5 : BitVec 32 := 0#32
  ![v8.toNat, 0, 0, 0]
def k0_off8 (i : grid0.Coords) : Fin 3 → Nat :=
  let arg0 : BitVec 32 := BitVec.ofNat 32 (i 0).val
  let c8_i32 : BitVec 32 := 8#32
  let v9 : BitVec 32 := Scalar.muli arg0 c8_i32
  let c0_i32_6 : BitVec 32 := 0#32
  let c0_i32_7 : BitVec 32 := 0#32
  ![v9.toNat, 0, 0]
def k0_off9 (i : grid0.Coords) : Fin 4 → Nat :=
  let arg0 : BitVec 32 := BitVec.ofNat 32 (i 0).val
  let c5_i32_8 : BitVec 32 := 5#32
  let v15 : BitVec 32 := Scalar.remsi arg0 c5_i32_8
  let v16 : Index := Scalar.indexCast v15
  let c0 : Index := 0#32
  let c0_9 : Index := 0#32
  let c0_10 : Index := 0#32
  ![v16.toNat, 0, 0, 0]
def k0_off10 (i : grid0.Coords) : Fin 2 → Nat :=
  let arg0 : BitVec 32 := BitVec.ofNat 32 (i 0).val
  let c8_i32_11 : BitVec 32 := 8#32
  let v20 : BitVec 32 := Scalar.muli arg0 c8_i32_11
  let v21 : Index := Scalar.indexCast v20
  let c0_12 : Index := 0#32
  ![v21.toNat, 0]
def k0_cond3 (i : grid0.Coords) : BitVec 1 :=
  let arg0 : BitVec 32 := BitVec.ofNat 32 (i 0).val
  let c5_i32_13 : BitVec 32 := 5#32
  let v25 : BitVec 1 := Scalar.cmpi .sge arg0 c5_i32_13
  let v26 : BitVec 32 := Scalar.extui v25
  let c0_i32_14 : BitVec 32 := 0#32
  let v27 : BitVec 1 := Scalar.cmpi .ne v26 c0_i32_14
  v27

def k0_off11 (i : grid0.Coords) : Fin 1 → Nat :=
  let arg0 : BitVec 32 := BitVec.ofNat 32 (i 0).val
  let c5_i32_26 : BitVec 32 := 5#32
  let v43 : BitVec 32 := Scalar.subi arg0 c5_i32_26
  let c5_i32_27 : BitVec 32 := 5#32
  let v44 : BitVec 32 := Scalar.remsi v43 c5_i32_27
  ![v44.toNat]
def k0_off12 (i : grid0.Coords) : Fin 3 → Nat :=
  let arg0 : BitVec 32 := BitVec.ofNat 32 (i 0).val
  let c5_i32_26 : BitVec 32 := 5#32
  let v43 : BitVec 32 := Scalar.subi arg0 c5_i32_26
  let c8_i32_28 : BitVec 32 := 8#32
  let v45 : BitVec 32 := Scalar.muli v43 c8_i32_28
  let c0_i32_29 : BitVec 32 := 0#32
  let c0_i32_30 : BitVec 32 := 0#32
  ![v45.toNat, 0, 0]
def k0_off13 (i : grid0.Coords) : Fin 4 → Nat :=
  let arg0 : BitVec 32 := BitVec.ofNat 32 (i 0).val
  let c5_i32_26 : BitVec 32 := 5#32
  let v43 : BitVec 32 := Scalar.subi arg0 c5_i32_26
  let c5_i32_27 : BitVec 32 := 5#32
  let v44 : BitVec 32 := Scalar.remsi v43 c5_i32_27
  let c0_i32_31 : BitVec 32 := 0#32
  let c0_i32_32 : BitVec 32 := 0#32
  let c0_i32_33 : BitVec 32 := 0#32
  ![v44.toNat, 0, 0, 0]
def k0_off14 (i : grid0.Coords) : Fin 4 → Nat :=
  let arg0 : BitVec 32 := BitVec.ofNat 32 (i 0).val
  let c5_i32_15 : BitVec 32 := 5#32
  let v28 : BitVec 32 := Scalar.remsi arg0 c5_i32_15
  let v29 : Index := Scalar.indexCast v28
  let c0_16 : Index := 0#32
  let c1 : Index := 1#32
  let c0_17 : Index := 0#32
  ![v29.toNat, 0, 1, 0]
def k0_off15 (i : grid0.Coords) : Fin 3 → Nat :=
  let arg0 : BitVec 32 := BitVec.ofNat 32 (i 0).val
  let c8_i32_19 : BitVec 32 := 8#32
  let v34 : BitVec 32 := Scalar.muli arg0 c8_i32_19
  let c0_i32_20 : BitVec 32 := 0#32
  let c0_i32_21 : BitVec 32 := 0#32
  ![v34.toNat, 0, 0]
def k0_off16 (i : grid0.Coords) : Fin 4 → Nat :=
  let arg0 : BitVec 32 := BitVec.ofNat 32 (i 0).val
  let c5_i32_18 : BitVec 32 := 5#32
  let v33 : BitVec 32 := Scalar.remsi arg0 c5_i32_18
  let c0_i32_22 : BitVec 32 := 0#32
  let c0_i32_23 : BitVec 32 := 0#32
  let c0_i32_24 : BitVec 32 := 0#32
  ![v33.toNat, 0, 0, 0]
def k0_cond4 (i : grid0.Coords) : BitVec 1 :=
  let arg0 : BitVec 32 := BitVec.ofNat 32 (i 0).val
  let c15_i32 : BitVec 32 := 15#32
  let v40 : BitVec 1 := Scalar.cmpi .eq arg0 c15_i32
  let v41 : BitVec 32 := Scalar.extui v40
  let c0_i32_25 : BitVec 32 := 0#32
  let v42 : BitVec 1 := Scalar.cmpi .ne v41 c0_i32_25
  v42

def k0_cond5 (i : grid0.Coords) : BitVec 1 :=
  let arg0 : BitVec 32 := BitVec.ofNat 32 (i 0).val
  let c0_i32_26 : BitVec 32 := 0#32
  let v43 : BitVec 32 := Scalar.subi arg0 c0_i32_26
  let c0_i32_27 : BitVec 32 := 0#32
  let v44 : BitVec 1 := Scalar.cmpi .sge v43 c0_i32_27
  let v45 : BitVec 32 := Scalar.extui v44
  let c0_i32_28 : BitVec 32 := 0#32
  let v46 : BitVec 1 := Scalar.cmpi .ne v45 c0_i32_28
  v46

def k0_off17 (i : grid0.Coords) : Fin 1 → Nat :=
  let arg0 : BitVec 32 := BitVec.ofNat 32 (i 0).val
  let c0_i32_26 : BitVec 32 := 0#32
  let v43 : BitVec 32 := Scalar.subi arg0 c0_i32_26
  let c5_i32_38 : BitVec 32 := 5#32
  let v63 : BitVec 32 := Scalar.remsi v43 c5_i32_38
  ![v63.toNat]
def k0_off18 (i : grid0.Coords) : Fin 3 → Nat :=
  let arg0 : BitVec 32 := BitVec.ofNat 32 (i 0).val
  let c0_i32_26 : BitVec 32 := 0#32
  let v43 : BitVec 32 := Scalar.subi arg0 c0_i32_26
  let c8_i32_39 : BitVec 32 := 8#32
  let v64 : BitVec 32 := Scalar.muli v43 c8_i32_39
  let c0_i32_40 : BitVec 32 := 0#32
  let c0_i32_41 : BitVec 32 := 0#32
  ![v64.toNat, 0, 0]
def k0_off19 (i : grid0.Coords) : Fin 4 → Nat :=
  let arg0 : BitVec 32 := BitVec.ofNat 32 (i 0).val
  let c0_i32_26 : BitVec 32 := 0#32
  let v43 : BitVec 32 := Scalar.subi arg0 c0_i32_26
  let c5_i32_38 : BitVec 32 := 5#32
  let v63 : BitVec 32 := Scalar.remsi v43 c5_i32_38
  let c0_i32_42 : BitVec 32 := 0#32
  let c0_i32_43 : BitVec 32 := 0#32
  let c0_i32_44 : BitVec 32 := 0#32
  ![v63.toNat, 0, 0, 0]
def k0_cond6 (i : grid0.Coords) : BitVec 1 :=
  let arg0 : BitVec 32 := BitVec.ofNat 32 (i 0).val
  let c1_i32_29 : BitVec 32 := 1#32
  let v47 : BitVec 32 := Scalar.subi arg0 c1_i32_29
  let c0_i32_30 : BitVec 32 := 0#32
  let v48 : BitVec 1 := Scalar.cmpi .sge v47 c0_i32_30
  let v49 : BitVec 32 := Scalar.extui v48
  let c0_i32_31 : BitVec 32 := 0#32
  let v50 : BitVec 1 := Scalar.cmpi .ne v49 c0_i32_31
  v50

def k0_off20 (i : grid0.Coords) : Fin 1 → Nat :=
  let arg0 : BitVec 32 := BitVec.ofNat 32 (i 0).val
  let c1_i32_29 : BitVec 32 := 1#32
  let v47 : BitVec 32 := Scalar.subi arg0 c1_i32_29
  let c5_i32_38 : BitVec 32 := 5#32
  let v63 : BitVec 32 := Scalar.remsi v47 c5_i32_38
  ![v63.toNat]
def k0_off21 (i : grid0.Coords) : Fin 3 → Nat :=
  let arg0 : BitVec 32 := BitVec.ofNat 32 (i 0).val
  let c1_i32_29 : BitVec 32 := 1#32
  let v47 : BitVec 32 := Scalar.subi arg0 c1_i32_29
  let c8_i32_39 : BitVec 32 := 8#32
  let v64 : BitVec 32 := Scalar.muli v47 c8_i32_39
  let c0_i32_40 : BitVec 32 := 0#32
  let c0_i32_41 : BitVec 32 := 0#32
  ![v64.toNat, 0, 0]
def k0_off22 (i : grid0.Coords) : Fin 4 → Nat :=
  let arg0 : BitVec 32 := BitVec.ofNat 32 (i 0).val
  let c1_i32_29 : BitVec 32 := 1#32
  let v47 : BitVec 32 := Scalar.subi arg0 c1_i32_29
  let c5_i32_38 : BitVec 32 := 5#32
  let v63 : BitVec 32 := Scalar.remsi v47 c5_i32_38
  let c0_i32_42 : BitVec 32 := 0#32
  let c0_i32_43 : BitVec 32 := 0#32
  let c0_i32_44 : BitVec 32 := 0#32
  ![v63.toNat, 0, 0, 0]
def k0_cond7 (i : grid0.Coords) : BitVec 1 :=
  let arg0 : BitVec 32 := BitVec.ofNat 32 (i 0).val
  let c2_i32 : BitVec 32 := 2#32
  let v51 : BitVec 32 := Scalar.subi arg0 c2_i32
  let c0_i32_32 : BitVec 32 := 0#32
  let v52 : BitVec 1 := Scalar.cmpi .sge v51 c0_i32_32
  let v53 : BitVec 32 := Scalar.extui v52
  let c0_i32_33 : BitVec 32 := 0#32
  let v54 : BitVec 1 := Scalar.cmpi .ne v53 c0_i32_33
  v54

def k0_off23 (i : grid0.Coords) : Fin 1 → Nat :=
  let arg0 : BitVec 32 := BitVec.ofNat 32 (i 0).val
  let c2_i32 : BitVec 32 := 2#32
  let v51 : BitVec 32 := Scalar.subi arg0 c2_i32
  let c5_i32_38 : BitVec 32 := 5#32
  let v63 : BitVec 32 := Scalar.remsi v51 c5_i32_38
  ![v63.toNat]
def k0_off24 (i : grid0.Coords) : Fin 3 → Nat :=
  let arg0 : BitVec 32 := BitVec.ofNat 32 (i 0).val
  let c2_i32 : BitVec 32 := 2#32
  let v51 : BitVec 32 := Scalar.subi arg0 c2_i32
  let c8_i32_39 : BitVec 32 := 8#32
  let v64 : BitVec 32 := Scalar.muli v51 c8_i32_39
  let c0_i32_40 : BitVec 32 := 0#32
  let c0_i32_41 : BitVec 32 := 0#32
  ![v64.toNat, 0, 0]
def k0_off25 (i : grid0.Coords) : Fin 4 → Nat :=
  let arg0 : BitVec 32 := BitVec.ofNat 32 (i 0).val
  let c2_i32 : BitVec 32 := 2#32
  let v51 : BitVec 32 := Scalar.subi arg0 c2_i32
  let c5_i32_38 : BitVec 32 := 5#32
  let v63 : BitVec 32 := Scalar.remsi v51 c5_i32_38
  let c0_i32_42 : BitVec 32 := 0#32
  let c0_i32_43 : BitVec 32 := 0#32
  let c0_i32_44 : BitVec 32 := 0#32
  ![v63.toNat, 0, 0, 0]
def k0_cond8 (i : grid0.Coords) : BitVec 1 :=
  let arg0 : BitVec 32 := BitVec.ofNat 32 (i 0).val
  let c3_i32 : BitVec 32 := 3#32
  let v55 : BitVec 32 := Scalar.subi arg0 c3_i32
  let c0_i32_34 : BitVec 32 := 0#32
  let v56 : BitVec 1 := Scalar.cmpi .sge v55 c0_i32_34
  let v57 : BitVec 32 := Scalar.extui v56
  let c0_i32_35 : BitVec 32 := 0#32
  let v58 : BitVec 1 := Scalar.cmpi .ne v57 c0_i32_35
  v58

def k0_off26 (i : grid0.Coords) : Fin 1 → Nat :=
  let arg0 : BitVec 32 := BitVec.ofNat 32 (i 0).val
  let c3_i32 : BitVec 32 := 3#32
  let v55 : BitVec 32 := Scalar.subi arg0 c3_i32
  let c5_i32_38 : BitVec 32 := 5#32
  let v63 : BitVec 32 := Scalar.remsi v55 c5_i32_38
  ![v63.toNat]
def k0_off27 (i : grid0.Coords) : Fin 3 → Nat :=
  let arg0 : BitVec 32 := BitVec.ofNat 32 (i 0).val
  let c3_i32 : BitVec 32 := 3#32
  let v55 : BitVec 32 := Scalar.subi arg0 c3_i32
  let c8_i32_39 : BitVec 32 := 8#32
  let v64 : BitVec 32 := Scalar.muli v55 c8_i32_39
  let c0_i32_40 : BitVec 32 := 0#32
  let c0_i32_41 : BitVec 32 := 0#32
  ![v64.toNat, 0, 0]
def k0_off28 (i : grid0.Coords) : Fin 4 → Nat :=
  let arg0 : BitVec 32 := BitVec.ofNat 32 (i 0).val
  let c3_i32 : BitVec 32 := 3#32
  let v55 : BitVec 32 := Scalar.subi arg0 c3_i32
  let c5_i32_38 : BitVec 32 := 5#32
  let v63 : BitVec 32 := Scalar.remsi v55 c5_i32_38
  let c0_i32_42 : BitVec 32 := 0#32
  let c0_i32_43 : BitVec 32 := 0#32
  let c0_i32_44 : BitVec 32 := 0#32
  ![v63.toNat, 0, 0, 0]
def k0_cond9 (i : grid0.Coords) : BitVec 1 :=
  let arg0 : BitVec 32 := BitVec.ofNat 32 (i 0).val
  let c4_i32 : BitVec 32 := 4#32
  let v59 : BitVec 32 := Scalar.subi arg0 c4_i32
  let c0_i32_36 : BitVec 32 := 0#32
  let v60 : BitVec 1 := Scalar.cmpi .sge v59 c0_i32_36
  let v61 : BitVec 32 := Scalar.extui v60
  let c0_i32_37 : BitVec 32 := 0#32
  let v62 : BitVec 1 := Scalar.cmpi .ne v61 c0_i32_37
  v62

def k0_off29 (i : grid0.Coords) : Fin 1 → Nat :=
  let arg0 : BitVec 32 := BitVec.ofNat 32 (i 0).val
  let c4_i32 : BitVec 32 := 4#32
  let v59 : BitVec 32 := Scalar.subi arg0 c4_i32
  let c5_i32_38 : BitVec 32 := 5#32
  let v63 : BitVec 32 := Scalar.remsi v59 c5_i32_38
  ![v63.toNat]
def k0_off30 (i : grid0.Coords) : Fin 3 → Nat :=
  let arg0 : BitVec 32 := BitVec.ofNat 32 (i 0).val
  let c4_i32 : BitVec 32 := 4#32
  let v59 : BitVec 32 := Scalar.subi arg0 c4_i32
  let c8_i32_39 : BitVec 32 := 8#32
  let v64 : BitVec 32 := Scalar.muli v59 c8_i32_39
  let c0_i32_40 : BitVec 32 := 0#32
  let c0_i32_41 : BitVec 32 := 0#32
  ![v64.toNat, 0, 0]
def k0_off31 (i : grid0.Coords) : Fin 4 → Nat :=
  let arg0 : BitVec 32 := BitVec.ofNat 32 (i 0).val
  let c4_i32 : BitVec 32 := 4#32
  let v59 : BitVec 32 := Scalar.subi arg0 c4_i32
  let c5_i32_38 : BitVec 32 := 5#32
  let v63 : BitVec 32 := Scalar.remsi v59 c5_i32_38
  let c0_i32_42 : BitVec 32 := 0#32
  let c0_i32_43 : BitVec 32 := 0#32
  let c0_i32_44 : BitVec 32 := 0#32
  ![v63.toNat, 0, 0, 0]
abbrev grid1 : Pipeline.Grid := .none

abbrev stage1_0 : Fin 1 → Memref sig .tc .vmem S128x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S768x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S128x3x224x224 : Shape := ⟨4, ![128, 3, 224, 224]⟩
abbrev S128x196x768 : Shape := ⟨3, ![128, 196, 768]⟩
abbrev S128 : Shape := ⟨1, ![128]⟩
abbrev S768x768 : Shape := ⟨2, ![768, 768]⟩
abbrev S768 : Shape := ⟨1, ![768]⟩
abbrev S_ : Shape := ⟨0, ![]⟩
abbrev S128x768 : Shape := ⟨2, ![128, 768]⟩
abbrev S8x768 : Shape := ⟨2, ![8, 768]⟩
abbrev S128x1 : Shape := ⟨2, ![128, 1]⟩
abbrev S8 : Shape := ⟨1, ![8]⟩
abbrev S8x1 : Shape := ⟨2, ![8, 1]⟩
abbrev S1x768 : Shape := ⟨2, ![1, 768]⟩
abbrev S1 : Shape := ⟨1, ![1]⟩
abbrev S1x1 : Shape := ⟨2, ![1, 1]⟩
abbrev S128x1x768 : Shape := ⟨3, ![128, 1, 768]⟩
abbrev S128x197x768 : Shape := ⟨3, ![128, 197, 768]⟩

abbrev nBuf : Space → Nat
  | .hbm => 56
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S128x196x768, .f32⟩
  | .hbm, ⟨2, _⟩ => ⟨S128, .i32⟩
  | .hbm, ⟨3, _⟩ => ⟨S768x768, .f32⟩
  | .hbm, ⟨4, _⟩ => ⟨S768, .f32⟩
  | .hbm, ⟨5, _⟩ => ⟨S_, .f32⟩
  | .hbm, ⟨6, _⟩ => ⟨S128x768, .f32⟩
  | .hbm, ⟨7, _⟩ => ⟨S_, .f32⟩
  | .hbm, ⟨8, _⟩ => ⟨S8x768, .f32⟩
  | .hbm, ⟨9, _⟩ => ⟨S128x1, .i32⟩
  | .hbm, ⟨10, _⟩ => ⟨S8x768, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S8, .f32⟩
  | .hbm, ⟨15, _⟩ => ⟨S128x1, .i32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S_, .f32⟩
  | .hbm, ⟨22, _⟩ => ⟨S8x1, .f32⟩
  | .hbm, ⟨23, _⟩ => ⟨S8x1, .f32⟩
  | .hbm, ⟨24, _⟩ => ⟨S8x768, .f32⟩
  | .hbm, ⟨25, _⟩ => ⟨S8x768, .f32⟩
  | .hbm, ⟨26, _⟩ => ⟨S768x768, .f32⟩
  | .hbm, ⟨27, _⟩ => ⟨S8x768, .f32⟩
  | .hbm, ⟨28, _⟩ => ⟨S1x768, .f32⟩
  | .hbm, ⟨29, _⟩ => ⟨S8x768, .f32⟩
  | .hbm, ⟨30, _⟩ => ⟨S8x768, .f32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S1, .i32⟩
  | .hbm, ⟨40, _⟩ => ⟨S_, .i32⟩
  | .hbm, ⟨41, _⟩ => ⟨S128x1, .i32⟩
  | .hbm, ⟨42, _⟩ => ⟨S128x1, .i1⟩
  | .hbm, ⟨43, _⟩ => ⟨S1x1, .i32⟩
  | .hbm, ⟨44, _⟩ => ⟨S128x1, .i32⟩
  | .hbm, ⟨45, _⟩ => ⟨S128x1, .i1⟩
  | .hbm, ⟨46, _⟩ => ⟨S128x1, .i1⟩
  | .hbm, ⟨47, _⟩ => ⟨S_, .i1⟩
  | .hbm, ⟨48, _⟩ => ⟨S128, .i1⟩
  | .hbm, ⟨49, _⟩ => ⟨S128x768, .f32⟩
  | .hbm, ⟨50, _⟩ => ⟨S128x768, .i1⟩
  | .hbm, ⟨51, _⟩ => ⟨S_, .f32⟩
  | .hbm, ⟨52, _⟩ => ⟨S128x768, .f32⟩
  | .hbm, ⟨53, _⟩ => ⟨S128x768, .f32⟩
  | .hbm, ⟨54, _⟩ => ⟨S128x1x768, .f32⟩
  | .hbm, ⟨55, _⟩ => ⟨S128x197x768, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩

abbrev nD : Nat := 1
abbrev τ : Topo := Topo.v7x

variable {F : FTy → Type} [FloatOps F]
-- ==== Proof.CopyNames.lean ====
/-
  The copying kernel (custom_call 0): the names of the pieces its transfers move, and its computed offsets and
  conditions in closed form at every grid point.

  The kernel walks 16 blocks of 8 examples. Block `b` of the patches comes into input slot `b % 5`, four blocks ahead;
  it leaves through output slot `b % 5` and is waited for five points later.
-/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Kit
public import Idealize.ShloMosaic.Lib.Ring
public import Idealize.ShloMosaic.Lib.Ring.AtN
public import Idealize.ShloMosaic.Lib.Ring.WriteBehind
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's rounds, beside the counters the kernels' own transfers ride on. -/
abbrev UU : Type := UR sig nD τ × Counters
/-- Where the pipeline library's rounds lie in it. -/
abbrev EP : Emb (UR sig nD τ) (MT nD τ sig Unit (Elt F) ℕ UU ℕ) := embL
/-- No kernel has a variant of its own. -/
abbrev 𝒱₀ : Variants := Variants.none

/-! ## Slots, blocks and cells -/

/-- The patches, left in HBM. -/
abbrev srcM : Memref sig .tc .hbm S128x196x768 .f32 := Memref.whole main_arg1
/-- The assembled output, left in HBM. -/
abbrev dstM : Memref sig .tc .hbm S128x197x768 .f32 := Memref.whole main_v1_0
/-- The per-example sums, left in HBM. -/
abbrev sumH : Memref sig .tc .hbm S128x768 .f32 := Memref.whole main_v1_1
/-- The five input slots. -/
abbrev inM : Memref sig .tc .vmem S5x8x196x768 .f32 := Memref.whole cc0_scratch0
/-- The five output slots. -/
abbrev outM : Memref sig .tc .vmem S5x8x197x768 .f32 := Memref.whole cc0_scratch1
/-- The sums gathered so far. -/
abbrev sumM : Memref sig .tc .vmem S128x768 .f32 := Memref.whole cc0_scratch2

abbrev slotOff (s : Fin 5) : Fin 4 → Nat := ![s.val, 0, 0, 0]
abbrev blkOff (b : Fin 16) : Fin 3 → Nat := ![8 * b.val, 0, 0]
abbrev cellOff (s : Fin 5) : Fin 1 → Nat := ![s.val]
abbrev rowOff (s : Fin 5) : Fin 4 → Nat := ![s.val, 0, 1, 0]
abbrev sumOff (b : Fin 16) : Fin 2 → Nat := ![8 * b.val, 0]

theorem inSlot_inb : ∀ (s : Fin 5) (a), slotOff s a + S1x8x196x768.size a ≤ S5x8x196x768.size a := by decide +kernel
theorem outSlot_inb : ∀ (s : Fin 5) (a), slotOff s a + S1x8x197x768.size a ≤ S5x8x197x768.size a := by decide +kernel
theorem inBlk_inb : ∀ (b : Fin 16) (a), blkOff b a + S8x196x768.size a ≤ S128x196x768.size a := by decide +kernel
theorem outBlk_inb : ∀ (b : Fin 16) (a), blkOff b a + S8x197x768.size a ≤ S128x197x768.size a := by decide +kernel
theorem cell_inb : ∀ (s : Fin 5) (a), cellOff s a + S1.size a ≤ S5.size a := by decide +kernel

/-- Input slot `s`. -/
def inSlot (s : Fin 5) : Memref sig .tc .vmem S8x196x768 .f32 :=
  (inM.slice (Rect.unit (s := S5x8x196x768) (slotOff s) S1x8x196x768.size (inSlot_inb s)) (fun _ => rfl)).squeeze S8x196x768 squeezes_S1x8x196x768_S8x196x768
/-- Output slot `s`. -/
def outSlot (s : Fin 5) : Memref sig .tc .vmem S8x197x768 .f32 :=
  (outM.slice (Rect.unit (s := S5x8x197x768) (slotOff s) S1x8x197x768.size (outSlot_inb s)) (fun _ => rfl)).squeeze S8x197x768 squeezes_S1x8x197x768_S8x197x768
/-- Block `b` of the patches. -/
def inBlk (b : Fin 16) : Memref sig .tc .hbm S8x196x768 .f32 :=
  srcM.slice (Rect.unit (s := S128x196x768) (blkOff b) S8x196x768.size (inBlk_inb b)) (fun _ => rfl)
/-- Block `b` of the output. -/
def outBlk (b : Fin 16) : Memref sig .tc .hbm S8x197x768 .f32 :=
  dstM.slice (Rect.unit (s := S128x197x768) (blkOff b) S8x197x768.size (outBlk_inb b)) (fun _ => rfl)
/-- Input slot `s`'s DMA semaphore. -/
def inSem (s : Fin 5) : DmaSems sig S_ := (cc0_scratch3.slice (Rect.unit (s := S5) (cellOff s) S1.size (cell_inb s))).squeeze S_ squeezes_S1_S_
/-- Output slot `s`'s DMA semaphore. -/
def outSem (s : Fin 5) : DmaSems sig S_ := (cc0_scratch4.slice (Rect.unit (s := S5) (cellOff s) S1.size (cell_inb s))).squeeze S_ squeezes_S1_S_

instance (s : Fin 5) : ClosedOff (slotOff s) := ⟨slotOff s, rfl⟩
instance (b : Fin 16) : ClosedOff (blkOff b) := ⟨blkOff b, rfl⟩

/-- Point `t` as a block number. -/
abbrev B (k : ℕ) : Fin 16 := Ring.bk 16 k
/-- The slot a step uses. -/
abbrev S (k : ℕ) : Fin 5 := Ring.sl 5 k

/-! ## The computed offsets in closed form -/

theorem off1_eq : ∀ r : Fin 4, k0_off1 (BitVec.ofNat 32 r.val) = cellOff (S r.val) := by decide +kernel
theorem off2_eq : ∀ r : Fin 4, k0_off2 (BitVec.ofNat 32 r.val) = slotOff (S r.val) := by decide +kernel
theorem off3_eq : ∀ t : Fin grid0.N, k0_off3 (grid0.coords t) = cellOff (S (t.val + 4)) := by decide +kernel
theorem off4_eq : ∀ t : Fin grid0.N, k0_off4 (grid0.coords t) = slotOff (S (t.val + 4)) := by decide +kernel
theorem off5_eq : ∀ t : Fin grid0.N, t.val + 4 < 16 → k0_off5 (grid0.coords t) = blkOff (B (t.val + 4)) := by decide +kernel
theorem off6_eq : ∀ t : Fin grid0.N, k0_off6 (grid0.coords t) = cellOff (S t.val) := by decide +kernel
theorem off7_eq : ∀ t : Fin grid0.N, k0_off7 (grid0.coords t) = slotOff (S t.val) := by decide +kernel
theorem off8_eq : ∀ t : Fin grid0.N, k0_off8 (grid0.coords t) = blkOff (B t.val) := by decide +kernel
theorem off9_eq : ∀ t : Fin grid0.N, k0_off9 (grid0.coords t) = slotOff (S t.val) := by decide +kernel
theorem off10_eq : ∀ t : Fin grid0.N, k0_off10 (grid0.coords t) = sumOff (B t.val) := by decide +kernel
theorem off11_eq : ∀ t : Fin grid0.N, 5 ≤ t.val → k0_off11 (grid0.coords t) = cellOff (S t.val) := by decide +kernel
theorem off12_eq : ∀ t : Fin grid0.N, 5 ≤ t.val → k0_off12 (grid0.coords t) = blkOff (B (t.val - 5)) := by decide +kernel
theorem off13_eq : ∀ t : Fin grid0.N, 5 ≤ t.val → k0_off13 (grid0.coords t) = slotOff (S t.val) := by decide +kernel
theorem off14_eq : ∀ t : Fin grid0.N, k0_off14 (grid0.coords t) = rowOff (S t.val) := by decide +kernel
theorem off15_eq : ∀ t : Fin grid0.N, k0_off15 (grid0.coords t) = blkOff (B t.val) := by decide +kernel
theorem off16_eq : ∀ t : Fin grid0.N, k0_off16 (grid0.coords t) = slotOff (S t.val) := by decide +kernel
/-- The last point's five waits, in order: blocks 15, 14, 13, 12 and 11, named from the point. -/
theorem off17_eq : ∀ t : Fin grid0.N, t.val = 15 → k0_off17 (grid0.coords t) = cellOff (S t.val) ∧ k0_off18 (grid0.coords t) = blkOff (B t.val) ∧ k0_off19 (grid0.coords t) = slotOff (S t.val) := by decide +kernel
theorem off20_eq : ∀ t : Fin grid0.N, t.val = 15 → k0_off20 (grid0.coords t) = cellOff (S (t.val + 4)) ∧ k0_off21 (grid0.coords t) = blkOff (B (t.val + 4 - 5)) ∧ k0_off22 (grid0.coords t) = slotOff (S (t.val + 4)) := by decide +kernel
theorem off23_eq : ∀ t : Fin grid0.N, t.val = 15 → k0_off23 (grid0.coords t) = cellOff (S (t.val + 3)) ∧ k0_off24 (grid0.coords t) = blkOff (B (t.val + 3 - 5)) ∧ k0_off25 (grid0.coords t) = slotOff (S (t.val + 3)) := by decide +kernel
theorem off26_eq : ∀ t : Fin grid0.N, t.val = 15 → k0_off26 (grid0.coords t) = cellOff (S (t.val + 2)) ∧ k0_off27 (grid0.coords t) = blkOff (B (t.val + 2 - 5)) ∧ k0_off28 (grid0.coords t) = slotOff (S (t.val + 2)) := by decide +kernel
theorem off29_eq : ∀ t : Fin grid0.N, t.val = 15 → k0_off29 (grid0.coords t) = cellOff (S (t.val + 1)) ∧ k0_off30 (grid0.coords t) = blkOff (B (t.val + 1 - 5)) ∧ k0_off31 (grid0.coords t) = slotOff (S (t.val + 1)) := by decide +kernel

instance (t : Fin grid0.N) : ClosedOff (k0_off9 (grid0.coords t)) := ⟨slotOff (S t.val), off9_eq t⟩
instance (t : Fin grid0.N) : ClosedOff (k0_off14 (grid0.coords t)) := ⟨rowOff (S t.val), off14_eq t⟩
instance (t : Fin grid0.N) : ClosedOff (k0_off10 (grid0.coords t)) := ⟨sumOff (B t.val), off10_eq t⟩

/-! ## The conditions in closed form -/

theorem cond1_iff : ∀ t : Fin grid0.N, k0_cond1 (grid0.coords t) = 1#1 ↔ t.val = 0 := by decide +kernel
theorem cond2_iff : ∀ t : Fin grid0.N, k0_cond2 (grid0.coords t) = 1#1 ↔ t.val + 4 < 16 := by decide +kernel
theorem cond3_iff : ∀ t : Fin grid0.N, k0_cond3 (grid0.coords t) = 1#1 ↔ 5 ≤ t.val := by decide +kernel
theorem cond4_iff : ∀ t : Fin grid0.N, k0_cond4 (grid0.coords t) = 1#1 ↔ t.val = 15 := by decide +kernel
theorem cond5_iff : ∀ t : Fin grid0.N, k0_cond5 (grid0.coords t) = 1#1 ↔ 0 ≤ t.val := by decide +kernel
theorem cond6_iff : ∀ t : Fin grid0.N, k0_cond6 (grid0.coords t) = 1#1 ↔ 1 ≤ t.val := by decide +kernel
theorem cond7_iff : ∀ t : Fin grid0.N, k0_cond7 (grid0.coords t) = 1#1 ↔ 2 ≤ t.val := by decide +kernel
theorem cond8_iff : ∀ t : Fin grid0.N, k0_cond8 (grid0.coords t) = 1#1 ↔ 3 ≤ t.val := by decide +kernel
theorem cond9_iff : ∀ t : Fin grid0.N, k0_cond9 (grid0.coords t) = 1#1 ↔ 4 ≤ t.val := by decide +kernel

/-! ## The program's slices by those names -/

private theorem inSem_congr {off : Fin 1 → Nat} {s : Fin 5} (e : off = cellOff s) (hh) :
    (cc0_scratch3.slice (Rect.unit (s := S5) off S1.size hh)).squeeze S_ squeezes_S1_S_ = inSem s :=
  congrArg (fun A : DmaSems sig S1 => A.squeeze S_ squeezes_S1_S_) (SemArray.slice_unit_congr _ e _ _)
private theorem outSem_congr {off : Fin 1 → Nat} {s : Fin 5} (e : off = cellOff s) (hh) :
    (cc0_scratch4.slice (Rect.unit (s := S5) off S1.size hh)).squeeze S_ squeezes_S1_S_ = outSem s :=
  congrArg (fun A : DmaSems sig S1 => A.squeeze S_ squeezes_S1_S_) (SemArray.slice_unit_congr _ e _ _)
private theorem inSlot_congr {off : Fin 4 → Nat} {s : Fin 5} (e : off = slotOff s) (hh hs) :
    (inM.slice (Rect.unit (s := S5x8x196x768) off S1x8x196x768.size hh) hs).squeeze S8x196x768 squeezes_S1x8x196x768_S8x196x768 = inSlot s :=
  congrArg (fun M : Memref sig .tc .vmem S1x8x196x768 .f32 => M.squeeze S8x196x768 squeezes_S1x8x196x768_S8x196x768) (Memref.slice_unit_congr _ e _ _ _ _)
private theorem outSlot_congr {off : Fin 4 → Nat} {s : Fin 5} (e : off = slotOff s) (hh hs) :
    (outM.slice (Rect.unit (s := S5x8x197x768) off S1x8x197x768.size hh) hs).squeeze S8x197x768 squeezes_S1x8x197x768_S8x197x768 = outSlot s :=
  congrArg (fun M : Memref sig .tc .vmem S1x8x197x768 .f32 => M.squeeze S8x197x768 squeezes_S1x8x197x768_S8x197x768) (Memref.slice_unit_congr _ e _ _ _ _)
private theorem inBlk_congr {off : Fin 3 → Nat} {b : Fin 16} (e : off = blkOff b) (hh hs) :
    srcM.slice (Rect.unit (s := S128x196x768) off S8x196x768.size hh) hs = inBlk b := Memref.slice_unit_congr _ e _ _ _ (fun _ => rfl)
private theorem outBlk_congr {off : Fin 3 → Nat} {b : Fin 16} (e : off = blkOff b) (hh hs) :
    dstM.slice (Rect.unit (s := S128x197x768) off S8x197x768.size hh) hs = outBlk b := Memref.slice_unit_congr _ e _ _ _ (fun _ => rfl)

section Canon

/-- The first point's four issues: cells, slots and blocks 0 to 3. -/
@[sl_canon] theorem cSem0 (hh) : (cc0_scratch3.slice (Rect.unit (s := S5) (k0_off1 0#32) S1.size hh)).squeeze S_ squeezes_S1_S_ = inSem (S 0) := inSem_congr (off1_eq 0) _
@[sl_canon] theorem cSem1 (hh) : (cc0_scratch3.slice (Rect.unit (s := S5) (k0_off1 1#32) S1.size hh)).squeeze S_ squeezes_S1_S_ = inSem (S 1) := inSem_congr (off1_eq 1) _
@[sl_canon] theorem cSem2 (hh) : (cc0_scratch3.slice (Rect.unit (s := S5) (k0_off1 2#32) S1.size hh)).squeeze S_ squeezes_S1_S_ = inSem (S 2) := inSem_congr (off1_eq 2) _
@[sl_canon] theorem cSem3 (hh) : (cc0_scratch3.slice (Rect.unit (s := S5) (k0_off1 3#32) S1.size hh)).squeeze S_ squeezes_S1_S_ = inSem (S 3) := inSem_congr (off1_eq 3) _
@[sl_canon] theorem cSlot0 (hh hs) : (inM.slice (Rect.unit (s := S5x8x196x768) (k0_off2 0#32) S1x8x196x768.size hh) hs).squeeze S8x196x768 squeezes_S1x8x196x768_S8x196x768 = inSlot (S 0) := inSlot_congr (off2_eq 0) _ _
@[sl_canon] theorem cSlot1 (hh hs) : (inM.slice (Rect.unit (s := S5x8x196x768) (k0_off2 1#32) S1x8x196x768.size hh) hs).squeeze S8x196x768 squeezes_S1x8x196x768_S8x196x768 = inSlot (S 1) := inSlot_congr (off2_eq 1) _ _
@[sl_canon] theorem cSlot2 (hh hs) : (inM.slice (Rect.unit (s := S5x8x196x768) (k0_off2 2#32) S1x8x196x768.size hh) hs).squeeze S8x196x768 squeezes_S1x8x196x768_S8x196x768 = inSlot (S 2) := inSlot_congr (off2_eq 2) _ _
@[sl_canon] theorem cSlot3 (hh hs) : (inM.slice (Rect.unit (s := S5x8x196x768) (k0_off2 3#32) S1x8x196x768.size hh) hs).squeeze S8x196x768 squeezes_S1x8x196x768_S8x196x768 = inSlot (S 3) := inSlot_congr (off2_eq 3) _ _
@[sl_canon] theorem cBlk0 (hh hs) : srcM.slice (Rect.unit (s := S128x196x768) ![0, 0, 0] S8x196x768.size hh) hs = inBlk (B 0) := inBlk_congr (by decide) _ _
@[sl_canon] theorem cBlk1 (hh hs) : srcM.slice (Rect.unit (s := S128x196x768) ![8, 0, 0] S8x196x768.size hh) hs = inBlk (B 1) := inBlk_congr (by decide) _ _
@[sl_canon] theorem cBlk2 (hh hs) : srcM.slice (Rect.unit (s := S128x196x768) ![16, 0, 0] S8x196x768.size hh) hs = inBlk (B 2) := inBlk_congr (by decide) _ _
@[sl_canon] theorem cBlk3 (hh hs) : srcM.slice (Rect.unit (s := S128x196x768) ![24, 0, 0] S8x196x768.size hh) hs = inBlk (B 3) := inBlk_congr (by decide) _ _

variable (t : Fin grid0.N)

/-- The block issued four ahead. -/
@[sl_canon] theorem cSemI (hh) : (cc0_scratch3.slice (Rect.unit (s := S5) (k0_off3 (grid0.coords t)) S1.size hh)).squeeze S_ squeezes_S1_S_ = inSem (S (t.val + 4)) := inSem_congr (off3_eq t) _
@[sl_canon] theorem cSlotI (hh hs) : (inM.slice (Rect.unit (s := S5x8x196x768) (k0_off4 (grid0.coords t)) S1x8x196x768.size hh) hs).squeeze S8x196x768 squeezes_S1x8x196x768_S8x196x768 = inSlot (S (t.val + 4)) := inSlot_congr (off4_eq t) _ _
@[sl_canon] theorem cBlkI (h : t.val + 4 < 16) (hh hs) : srcM.slice (Rect.unit (s := S128x196x768) (k0_off5 (grid0.coords t)) S8x196x768.size hh) hs = inBlk (B (t.val + 4)) := inBlk_congr (off5_eq t h) _ _
/-- The block waited for. -/
@[sl_canon] theorem cSemW (hh) : (cc0_scratch3.slice (Rect.unit (s := S5) (k0_off6 (grid0.coords t)) S1.size hh)).squeeze S_ squeezes_S1_S_ = inSem (S t.val) := inSem_congr (off6_eq t) _
@[sl_canon] theorem cSlotW (hh hs) : (inM.slice (Rect.unit (s := S5x8x196x768) (k0_off7 (grid0.coords t)) S1x8x196x768.size hh) hs).squeeze S8x196x768 squeezes_S1x8x196x768_S8x196x768 = inSlot (S t.val) := inSlot_congr (off7_eq t) _ _
@[sl_canon] theorem cBlkW (hh hs) : srcM.slice (Rect.unit (s := S128x196x768) (k0_off8 (grid0.coords t)) S8x196x768.size hh) hs = inBlk (B t.val) := inBlk_congr (off8_eq t) _ _
/-- The output block waited for, five points old. -/
@[sl_canon] theorem cOSemW (h : 5 ≤ t.val) (hh) : (cc0_scratch4.slice (Rect.unit (s := S5) (k0_off11 (grid0.coords t)) S1.size hh)).squeeze S_ squeezes_S1_S_ = outSem (S t.val) := outSem_congr (off11_eq t h) _
@[sl_canon] theorem cOBlkW (h : 5 ≤ t.val) (hh hs) : dstM.slice (Rect.unit (s := S128x197x768) (k0_off12 (grid0.coords t)) S8x197x768.size hh) hs = outBlk (B (t.val - 5)) := outBlk_congr (off12_eq t h) _ _
@[sl_canon] theorem cOSlotW (h : 5 ≤ t.val) (hh hs) : (outM.slice (Rect.unit (s := S5x8x197x768) (k0_off13 (grid0.coords t)) S1x8x197x768.size hh) hs).squeeze S8x197x768 squeezes_S1x8x197x768_S8x197x768 = outSlot (S t.val) := outSlot_congr (off13_eq t h) _ _
/-- The output block issued. -/
@[sl_canon] theorem cOSemI (hh) : (cc0_scratch4.slice (Rect.unit (s := S5) (k0_off6 (grid0.coords t)) S1.size hh)).squeeze S_ squeezes_S1_S_ = outSem (S t.val) := outSem_congr (off6_eq t) _
@[sl_canon] theorem cOBlkI (hh hs) : dstM.slice (Rect.unit (s := S128x197x768) (k0_off15 (grid0.coords t)) S8x197x768.size hh) hs = outBlk (B t.val) := outBlk_congr (off15_eq t) _ _
@[sl_canon] theorem cOSlotI (hh hs) : (outM.slice (Rect.unit (s := S5x8x197x768) (k0_off16 (grid0.coords t)) S1x8x197x768.size hh) hs).squeeze S8x197x768 squeezes_S1x8x197x768_S8x197x768 = outSlot (S t.val) := outSlot_congr (off16_eq t) _ _
/-- The last point's waits. -/
@[sl_canon] theorem cDSem15 (h : t.val = 15) (hh) : (cc0_scratch4.slice (Rect.unit (s := S5) (k0_off17 (grid0.coords t)) S1.size hh)).squeeze S_ squeezes_S1_S_ = outSem (S t.val) := outSem_congr (off17_eq t h).1 _
@[sl_canon] theorem cDBlk15 (h : t.val = 15) (hh hs) : dstM.slice (Rect.unit (s := S128x197x768) (k0_off18 (grid0.coords t)) S8x197x768.size hh) hs = outBlk (B t.val) := outBlk_congr (off17_eq t h).2.1 _ _
@[sl_canon] theorem cDSlot15 (h : t.val = 15) (hh hs) : (outM.slice (Rect.unit (s := S5x8x197x768) (k0_off19 (grid0.coords t)) S1x8x197x768.size hh) hs).squeeze S8x197x768 squeezes_S1x8x197x768_S8x197x768 = outSlot (S t.val) := outSlot_congr (off17_eq t h).2.2 _ _
@[sl_canon] theorem cDSem14 (h : t.val = 15) (hh) : (cc0_scratch4.slice (Rect.unit (s := S5) (k0_off20 (grid0.coords t)) S1.size hh)).squeeze S_ squeezes_S1_S_ = outSem (S (t.val + 4)) := outSem_congr (off20_eq t h).1 _
@[sl_canon] theorem cDBlk14 (h : t.val = 15) (hh hs) : dstM.slice (Rect.unit (s := S128x197x768) (k0_off21 (grid0.coords t)) S8x197x768.size hh) hs = outBlk (B (t.val + 4 - 5)) := outBlk_congr (off20_eq t h).2.1 _ _
@[sl_canon] theorem cDSlot14 (h : t.val = 15) (hh hs) : (outM.slice (Rect.unit (s := S5x8x197x768) (k0_off22 (grid0.coords t)) S1x8x197x768.size hh) hs).squeeze S8x197x768 squeezes_S1x8x197x768_S8x197x768 = outSlot (S (t.val + 4)) := outSlot_congr (off20_eq t h).2.2 _ _
@[sl_canon] theorem cDSem13 (h : t.val = 15) (hh) : (cc0_scratch4.slice (Rect.unit (s := S5) (k0_off23 (grid0.coords t)) S1.size hh)).squeeze S_ squeezes_S1_S_ = outSem (S (t.val + 3)) := outSem_congr (off23_eq t h).1 _
@[sl_canon] theorem cDBlk13 (h : t.val = 15) (hh hs) : dstM.slice (Rect.unit (s := S128x197x768) (k0_off24 (grid0.coords t)) S8x197x768.size hh) hs = outBlk (B (t.val + 3 - 5)) := outBlk_congr (off23_eq t h).2.1 _ _
@[sl_canon] theorem cDSlot13 (h : t.val = 15) (hh hs) : (outM.slice (Rect.unit (s := S5x8x197x768) (k0_off25 (grid0.coords t)) S1x8x197x768.size hh) hs).squeeze S8x197x768 squeezes_S1x8x197x768_S8x197x768 = outSlot (S (t.val + 3)) := outSlot_congr (off23_eq t h).2.2 _ _
@[sl_canon] theorem cDSem12 (h : t.val = 15) (hh) : (cc0_scratch4.slice (Rect.unit (s := S5) (k0_off26 (grid0.coords t)) S1.size hh)).squeeze S_ squeezes_S1_S_ = outSem (S (t.val + 2)) := outSem_congr (off26_eq t h).1 _
@[sl_canon] theorem cDBlk12 (h : t.val = 15) (hh hs) : dstM.slice (Rect.unit (s := S128x197x768) (k0_off27 (grid0.coords t)) S8x197x768.size hh) hs = outBlk (B (t.val + 2 - 5)) := outBlk_congr (off26_eq t h).2.1 _ _
@[sl_canon] theorem cDSlot12 (h : t.val = 15) (hh hs) : (outM.slice (Rect.unit (s := S5x8x197x768) (k0_off28 (grid0.coords t)) S1x8x197x768.size hh) hs).squeeze S8x197x768 squeezes_S1x8x197x768_S8x197x768 = outSlot (S (t.val + 2)) := outSlot_congr (off26_eq t h).2.2 _ _
@[sl_canon] theorem cDSem11 (h : t.val = 15) (hh) : (cc0_scratch4.slice (Rect.unit (s := S5) (k0_off29 (grid0.coords t)) S1.size hh)).squeeze S_ squeezes_S1_S_ = outSem (S (t.val + 1)) := outSem_congr (off29_eq t h).1 _
@[sl_canon] theorem cDBlk11 (h : t.val = 15) (hh hs) : dstM.slice (Rect.unit (s := S128x197x768) (k0_off30 (grid0.coords t)) S8x197x768.size hh) hs = outBlk (B (t.val + 1 - 5)) := outBlk_congr (off29_eq t h).2.1 _ _
@[sl_canon] theorem cDSlot11 (h : t.val = 15) (hh hs) : (outM.slice (Rect.unit (s := S5x8x197x768) (k0_off31 (grid0.coords t)) S1x8x197x768.size hh) hs).squeeze S8x197x768 squeezes_S1x8x197x768_S8x197x768 = outSlot (S (t.val + 1)) := outSlot_congr (off29_eq t h).2.2 _ _

end Canon

end Cert.KernelIdeal.Hand

end
-- ==== Proof.CopyValues.lean ====
/-
  The copying kernel: what each of its pieces holds, as facts about reads.

  An input slot receives a block of the patches; an output slot keeps a first row of zeros and takes the block's 196
  rows after it; a block of the output is that; the sums take eight rows a point.
-/
module

public import proofs.«01_k».proof.Proof.CopyNames
public import Idealize.ShloMosaic.Lib.ValueLayout
public import Idealize.ShloMosaic.Lib.Pipeline.Value

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

section Values
variable (c : Dev nD) (X : Buf (Elt F) (srcM.view.loc (c : Thread nD τ)))

/-- Block `b` of the patches. -/
def xin (b : Fin 16) : FVec F S8x196x768 .f32 := (inBlk b).view.read (Elt F) X

/-- The zero the kernel writes. -/
abbrev zeroF : F .f32 := Scalar.ofBits .f32 0x00000000#32

/-- A block's 197 rows: zeros, then the 196 rows of the patches. -/
def stacked (x : FVec F S8x196x768 .f32) : FVec F S8x197x768 .f32 := fun y =>
  if h : (y (1 : Fin 3)).val = 0 then zeroF
  else x (ix3 (y 0) ⟨(y (1 : Fin 3)).val - 1, by have : (y (1 : Fin 3)).val < 197 := (y (1 : Fin 3)).isLt; omega⟩ (y 2))

/-- A block's sums over its 196 rows. -/
def rowSums (x : FVec F S8x196x768 .f32) : FVec F S8x768 .f32 :=
  multiReduction .add [1] S8x768 x 0x00000000#32 reduces_S8x196x768_S8x768 (.inl rfl) rfl

/-- Every example's sums. -/
def allSums : FVec F S128x768 .f32 := fun y =>
  rowSums (xin c X (B ((y (0 : Fin 2)).val / 8))) (ix2 ⟨(y (0 : Fin 2)).val % 8, Nat.mod_lt _ (by decide)⟩ (y 1))

/-- Row 0 of an output slot's contents is zero. -/
def RowZero (x : FVec F S8x197x768 .f32) : Prop := ∀ y : S8x197x768.Idx, (y (1 : Fin 3)).val = 0 → x y = zeroF

theorem rowZero_stacked (x : FVec F S8x196x768 .f32) : RowZero (stacked x) := fun y h => dif_pos h

theorem stacked_row (x : FVec F S8x196x768 .f32) (a : Fin 8) (r : Fin 197) (k : Fin 768) (h : ¬ r.val = 0) :
    stacked x (ix3 a r k) = x (ix3 a ⟨r.val - 1, by have := r.isLt; omega⟩ k) := by
  unfold stacked; exact dif_neg h

/-- The sums gathered before point `p`. -/
def SumsTo (p : ℕ) (f : Buf (Elt F) (sumM.view.loc (c : Thread nD τ))) : Prop :=
  ∀ y : S128x768.Idx, (y (0 : Fin 2)).val < 8 * p → sumM.view.read (Elt F) f y = allSums c X y

/-- A block landed in an input slot. -/
theorem in_landed (s : Fin 5) (b : Fin 16) (f : Buf (Elt F) ((inSlot s).view.loc (c : Thread nD τ))) :
    (inSlot s).view.read (Elt F) ((inSlot s).view.writes (Elt F) f [⟨Rect.whole S8x196x768, ReadAs.same.apply ((inBlk b).view.read (Elt F) X)⟩]) = xin c X b :=
  View.read_writes_whole _ _ _

/-- A slot landed in a block of the output. -/
theorem out_landed (s : Fin 5) (b : Fin 16) (g : Buf (Elt F) ((outBlk b).view.loc (c : Thread nD τ))) (f : Buf (Elt F) ((outSlot s).view.loc (c : Thread nD τ))) :
    (outBlk b).view.read (Elt F) ((outBlk b).view.writes (Elt F) g [⟨Rect.whole S8x197x768, ReadAs.same.apply ((outSlot s).view.read (Elt F) f)⟩]) = (outSlot s).view.read (Elt F) f :=
  View.read_writes_whole _ _ _

/-- The load of an input slot through the whole buffer is the slot's contents. -/
theorem in_loaded {off : Fin 4 → ℕ} (s : Fin 5) (e : off = slotOff s) (hh) (f : Buf (Elt F) ((inSlot s).view.loc (c : Thread nD τ))) :
    k0_pay7 (View.readAt (Elt F) inM.view (Rect.unit (s := S5x8x196x768) off S1x8x196x768.size hh).toLoadRect f) = (inSlot s).view.read (Elt F) f := by
  subst e; rfl

/-- An element of an output slot is that element of the buffer of slots. -/
theorem out_read_apply (s : Fin 5) (f : Buf (Elt F) ((outSlot s).view.loc (c : Thread nD τ))) (a : Fin 8) (r : Fin 197) (k : Fin 768) :
    (outSlot s).view.read (Elt F) f (ix3 a r k) = outM.view.read (Elt F) f (ix4 s a r k) := by
  have h := Memref.read_squeeze_slice (Val := Elt F) outM (Rect.unit (s := S5x8x197x768) (slotOff s) S1x8x197x768.size (outSlot_inb s)) (fun _ => rfl) squeezes_S1x8x197x768_S8x197x768 (show S1x8x197x768.ShapeCasts S8x197x768 by decide) f
  refine (congrFun h (ix3 a r k)).trans ?_
  refine (shapeCast_1abc_abc_apply _ _ _ _ _).trans ?_
  refine congrArg (outM.view.read (Elt F) f) (funext fun d => ?_)
  match d with
  | ⟨0, _⟩ => exact Fin.ext (by show s.val + 1 * 0 = s.val; omega)
  | ⟨1, _⟩ => exact Fin.ext (by show 0 + 1 * a.val = a.val; omega)
  | ⟨2, _⟩ => exact Fin.ext (by show 0 + 1 * r.val = r.val; omega)
  | ⟨3, _⟩ => exact Fin.ext (by show 0 + 1 * k.val = k.val; omega)

/-- Storing a block's rows after row 0 of a slot whose row 0 is zero. -/
theorem out_stored {off : Fin 4 → ℕ} (s : Fin 5) (e : off = rowOff s) (hh) (f : Buf (Elt F) ((outSlot s).view.loc (c : Thread nD τ)))
    (h0 : RowZero ((outSlot s).view.read (Elt F) f)) (x : FVec F S8x196x768 .f32) :
    (outSlot s).view.read (Elt F) (outM.view.writes (Elt F) f [⟨Rect.unit (s := S5x8x197x768) off S1x8x196x768.size hh, k0_pay1 x⟩]) = stacked x := by
  funext y
  obtain ⟨a, r, k, rfl⟩ : ∃ (a : Fin 8) (r : Fin 197) (k : Fin 768), y = ix3 a r k := ⟨_, _, _, eq_ix3 y⟩
  refine (out_read_apply c s _ a r k).trans ?_
  by_cases hr : r.val = 0
  · refine (View.read_writes_cons_unit_of_not_mem outM.view f hh (k0_pay1 x) [] (ix4 s a r k) e (2 : Fin 4) (.inl (by show r.val < 1; omega))).trans ?_
    refine (out_read_apply c s f a r k).symm.trans ((h0 _ hr).trans ?_)
    exact (rowZero_stacked x _ hr).symm
  · have hr' : r.val - 1 < 196 := by have := r.isLt; omega
    refine (View.read_writes_cons_unit_of_mem outM.view f hh (k0_pay1 x) [] (ix4 s a r k) (ix4 (0 : Fin 1) a (⟨r.val - 1, hr'⟩ : Fin 196) k) e (fun d => by
      match d with
      | ⟨0, _⟩ => show s.val = s.val + 0; omega
      | ⟨1, _⟩ => show a.val = 0 + a.val; omega
      | ⟨2, _⟩ => show r.val = 1 + (r.val - 1); omega
      | ⟨3, _⟩ => show k.val = 0 + k.val; omega)).trans ?_
    refine (shapeCast_abc_1abc_apply _ _ _ _ _ _).trans ?_
    exact (stacked_row x a r k hr).symm

/-- The first point's zeros in a slot's row 0. -/
theorem out_zeroed (s : Fin 5) {off : Fin 4 → ℕ} (e : off = slotOff s) (hh) (f : Buf (Elt F) ((outSlot s).view.loc (c : Thread nD τ)))
    (w : FVec F S1x8x1x768 .f32) (hw : ∀ j, w j = zeroF) :
    RowZero ((outSlot s).view.read (Elt F) (outM.view.writes (Elt F) f [⟨Rect.unit (s := S5x8x197x768) off S1x8x1x768.size hh, w⟩])) := by
  intro y
  obtain ⟨a, r, k, rfl⟩ : ∃ (a : Fin 8) (r : Fin 197) (k : Fin 768), y = ix3 a r k := ⟨_, _, _, eq_ix3 y⟩
  intro hr
  have hr : r.val = 0 := hr
  refine (out_read_apply c s _ a r k).trans ?_
  refine (View.read_writes_cons_unit_of_mem outM.view f hh w [] (ix4 s a r k) (ix4 (0 : Fin 1) a (0 : Fin 1) k) e (fun d => by
      match d with
      | ⟨0, _⟩ => show s.val = s.val + 0; omega
      | ⟨1, _⟩ => show a.val = 0 + a.val; omega
      | ⟨2, _⟩ => show r.val = 0 + 0; omega
      | ⟨3, _⟩ => show k.val = 0 + k.val; omega)).trans ?_
  exact hw _

/-- Point `p` adds its eight rows to the sums gathered. -/
theorem sums_step (p : ℕ) (hp : p < 16) {off : Fin 2 → ℕ} (e : off = sumOff (B p)) (hh) (f : Buf (Elt F) (sumM.view.loc (c : Thread nD τ))) (hf : SumsTo c X p f)
    (w : FVec F S8x768 .f32) (hw : w = rowSums (xin c X (B p))) :
    SumsTo c X (p + 1) (sumM.view.writes (Elt F) f [⟨Rect.unit (s := S128x768) off S8x768.size hh, w⟩]) := by
  intro y hy
  obtain ⟨a, k, rfl⟩ : ∃ (a : Fin 128) (k : Fin 768), y = ix2 a k := ⟨_, _, eq_ix2 y⟩
  have hy : a.val < 8 * (p + 1) := hy
  have hb : (B p).val = p := Ring.bk_val hp
  by_cases h : a.val < 8 * p
  · refine (View.read_writes_cons_unit_of_not_mem sumM.view f hh w [] (ix2 a k) e (0 : Fin 2) (.inl (by show a.val < 8 * (B p).val; rw [hb]; omega))).trans ?_
    exact hf _ h
  · have hl : a.val - 8 * p < 8 := by omega
    refine (View.read_writes_cons_unit_of_mem sumM.view f hh w [] (ix2 a k) (ix2 (⟨a.val - 8 * p, hl⟩ : Fin 8) k) e (fun d => by
      match d with
      | ⟨0, _⟩ => show a.val = 8 * (B p).val + (a.val - 8 * p); rw [hb]; omega
      | ⟨1, _⟩ => show k.val = 0 + k.val; omega)).trans ?_
    have e1 : a.val / 8 = p := by omega
    have e2 : a.val % 8 = a.val - 8 * p := by omega
    show _ = rowSums (xin c X (B (a.val / 8))) (ix2 ⟨a.val % 8, _⟩ k)
    simp only [hw, e1, e2]

theorem sums_zero (f : Buf (Elt F) (sumM.view.loc (c : Thread nD τ))) : SumsTo c X 0 f := fun y h => absurd h (by omega)

end Values

end Cert.KernelIdeal.Hand

end
-- ==== Proof.CopyState.lean ====
/-
  The copying kernel: what it holds before each of its 16 points.

  Blocks of the patches are home or on their way into an input slot, four blocks ahead; blocks of the output are as the
  kernel found them, on their way out of an output slot, or written. The equations open that state at a point and close
  it at the next.
-/
module

public import proofs.«01_k».proof.Proof.CopyValues

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Pieces
variable (c : Dev nD) (X : Buf (Elt F) (srcM.view.loc (c : Thread nD τ)))

/-- Input slot `s`'s semaphore at zero. -/
abbrev inCell (s : Fin 5) : sProp 𝕄 := semVal ((c : Thread nD τ), SemLoc.dma (inSem s).sem) 0
/-- Output slot `s`'s semaphore at zero. -/
abbrev outCell (s : Fin 5) : sProp 𝕄 := semVal ((c : Thread nD τ), SemLoc.dma (outSem s).sem) 0
/-- Input slot `s` held. -/
abbrev inSlotP (s : Fin 5) (f : Buf (Elt F) ((inSlot s).view.loc (c : Thread nD τ))) : sProp 𝕄 :=
  (inSlot s).view.loc (c : Thread nD τ) ↦[(inSlot s).view.set]{fullShare} f
/-- Output slot `s` held. -/
abbrev outSlotP (s : Fin 5) (f : Buf (Elt F) ((outSlot s).view.loc (c : Thread nD τ))) : sProp 𝕄 :=
  (outSlot s).view.loc (c : Thread nD τ) ↦[(outSlot s).view.set]{fullShare} f
/-- Block `b` of the patches held. -/
abbrev inBlkP (b : Fin 16) : sProp 𝕄 := (inBlk b).view.loc (c : Thread nD τ) ↦[(inBlk b).view.set]{fullShare} X
/-- Block `b` of the output held. -/
abbrev outBlkP (b : Fin 16) (f : Buf (Elt F) ((outBlk b).view.loc (c : Thread nD τ))) : sProp 𝕄 :=
  (outBlk b).view.loc (c : Thread nD τ) ↦[(outBlk b).view.set]{fullShare} f
/-- The sums buffer held. -/
abbrev sumP (f : Buf (Elt F) (sumM.view.loc (c : Thread nD τ))) : sProp 𝕄 := sumM.view.loc (c : Thread nD τ) ↦{fullShare} f

/-- Block `b` on its way into input slot `s`. -/
abbrev inFlight (s : Fin 5) (b : Fin 16) (f : Buf (Elt F) ((inSlot s).view.loc (c : Thread nD τ))) : sProp 𝕄 :=
  Transfers.Flight countersEmb (c : Thread nD τ) (SemLoc.dma (inSem s).sem) () 150528 iprop(inSlotP c s f ∗ inBlkP c X b)
/-- Output slot `s` on its way into block `b` of the output. -/
abbrev outFlight (s : Fin 5) (b : Fin 16) (f : Buf (Elt F) ((outSlot s).view.loc (c : Thread nD τ))) (g : Buf (Elt F) ((outBlk b).view.loc (c : Thread nD τ))) : sProp 𝕄 :=
  Transfers.Flight countersEmb (c : Thread nD τ) (SemLoc.dma (outSem s).sem) () 151296 iprop(outBlkP c b g ∗ outSlotP c s f)

/-- The kernel's body at a point. -/
abbrev bodyC (t : Fin grid0.N) := cc0__copy_sum_body (F := F) (grid0.coords t) srcM (Memref.isWhole_whole _) dstM (Memref.isWhole_whole _) sumH (Memref.isWhole_whole _) inM (Memref.isWhole_whole _) outM (Memref.isWhole_whole _) sumM (Memref.isWhole_whole _) cc0_scratch3 cc0_scratch4 cc0_scratch5
/-- The sums array held. -/
abbrev sumHP (f : Buf (Elt F) (sumH.view.loc (c : Thread nD τ))) : sProp 𝕄 := sumH.view.loc (c : Thread nD τ) ↦{fullShare} f
/-- The sums copy's semaphore at zero. -/
abbrev sumCell : sProp 𝕄 := semVal ((c : Thread nD τ), SemLoc.dma (cc0_scratch5).sem) 0

/-! ## The input ring -/

/-- Input slot `s` free. -/
abbrev inFree (s : Fin 5) : sProp 𝕄 := Ring.free (inCell (F := F) c) (inSlotP (F := F) c) s
/-- Input slot `s` receiving block `b`, of known contents. -/
abbrev inFl (s : Fin 5) (b : Fin 16) (f : Buf (Elt F) ((inSlot s).view.loc (c : Thread nD τ))) : sProp 𝕄 :=
  iprop(⌜(inSlot s).view.read (Elt F) f = xin c X b⌝ ∗ inFlight c X s b f)
/-- Block `k` on its way in, into its own slot. -/
abbrev inGo (k : ℕ) : sProp 𝕄 := Ring.inflight (inFl c X) (S k) (B k)
/-- The input ring before point `p ≥ 1`. -/
def RIn (p : ℕ) : sProp 𝕄 := Ring.At 4 (inCell c) (inSlotP c) (inBlkP c X) (inFl c X) p
/-- The input ring before the first point. -/
def RIn₀ : sProp 𝕄 := Ring.At₀ (inCell c) (inSlotP c) (inBlkP c X)
/-- The blocks home before and after point `t`. -/
def inRest (t : ℕ) : sProp 𝕄 := bigSep ((Ring.homeSet 4 t).erase (B (t + 4))) (inBlkP c X)

theorem univ5 : (Finset.univ : Finset (Fin 5)) = [0, 1, 2, 3, 4].toFinset := by decide
theorem nodup5 : ([0, 1, 2, 3, 4] : List (Fin 5)).Nodup := by decide

theorem in_start : RIn₀ c X = iprop((inBlkP c X (B 0) ∗ inBlkP c X (B 1) ∗ inBlkP c X (B 2) ∗ inBlkP c X (B 3) ∗ inBlkP c X (B (0 + 4)) ∗ inRest c X 0)
    ∗ inFree c (S 0) ∗ inFree c (S 1) ∗ inFree c (S 2) ∗ inFree c (S 3) ∗ inFree c (S (0 + 4))) :=
  Ring.At₀_eq_n (inBlkP c X) 4 (inCell c) (inSlotP c) [0, 1, 2, 3, 4] univ5 nodup5 rfl (by decide)

theorem in_here (t : ℕ) (h : t + 4 < 16) : RIn c X t = iprop((inBlkP c X (B (t + 4)) ∗ inRest c X t)
    ∗ inGo c X t ∗ inGo c X (t + 1) ∗ inGo c X (t + 2) ∗ inGo c X (t + 3) ∗ inFree c (S (t + 4))) :=
  Ring.At_here_n (inBlkP c X) 4 (inCell c) (inSlotP c) (inFl c X) [0, 1, 2, 3, 4] univ5 nodup5 t h

theorem in_next (t : ℕ) (h : t + 4 < 16) : RIn c X (t + 1) = iprop((inBlkP c X (B t) ∗ inRest c X t)
    ∗ inGo c X (t + 1) ∗ inGo c X (t + 2) ∗ inGo c X (t + 3) ∗ inGo c X (t + 4) ∗ inFree c (S t)) := by
  refine (Ring.At_next_n (inBlkP c X) 4 (inCell c) (inSlotP c) (inFl c X) [0, 1, 2, 3, 4] univ5 nodup5 rfl t h).trans ?_
  have e (j : Fin 5) (k : ℕ) (hk : t + 1 + j.val = k) (h : j.val < 4) (hB : k < 16) :
      Ring.slotAt 4 (inCell c) (inSlotP c) (inFl c X) (t + 1) j = inGo c X k :=
    Ring.slotAt_eq_inflight 4 _ _ _ _ j k hk ⟨h, hB⟩
  simp only [bigSepL, show (0 : Fin 5).val < 4 by decide, show (1 : Fin 5).val < 4 by decide, show (2 : Fin 5).val < 4 by decide, show (3 : Fin 5).val < 4 by decide, show ¬ (4 : Fin 5).val < 4 by decide, if_true, if_false]
  rw [e 0 (t + 1) (by simp) (by decide) (by omega), e 1 (t + 2) (by simp) (by decide) (by omega), e 2 (t + 3) (by simp) (by decide) (by omega), e 3 (t + 4) (by simp) (by decide) (by omega)]
  rfl

/-- Role `j` of the input ring before point `t`. -/
abbrev inRole (t : ℕ) (j : Fin 5) : sProp 𝕄 := Ring.slotAt 4 (inCell c) (inSlotP c) (inFl c X) t j

theorem in_here_tail (t : ℕ) (ht : t < 16) : RIn c X t = iprop(bigSep (Ring.homeSet 4 t) (inBlkP c X)
    ∗ inGo c X t ∗ inRole c X t 1 ∗ inRole c X t 2 ∗ inRole c X t 3 ∗ inFree c (S (t + 4))) :=
  Ring.At_here_tail_n (inBlkP c X) 4 (inCell c) (inSlotP c) (inFl c X) [0, 1, 2, 3, 4] univ5 nodup5 rfl (by decide) t ht

theorem in_next_tail (t : ℕ) (h : 16 ≤ t + 4) (ht : t < 16) : RIn c X (t + 1) = iprop((inBlkP c X (B t) ∗ bigSep (Ring.homeSet 4 t) (inBlkP c X))
    ∗ inRole c X t 1 ∗ inRole c X t 2 ∗ inRole c X t 3 ∗ inFree c (S (t + 4)) ∗ inFree c (S t)) := by
  refine (Ring.At_next_tail_n (inBlkP c X) 4 (inCell c) (inSlotP c) (inFl c X) [0, 1, 2, 3, 4] univ5 nodup5 rfl t h ht).trans ?_
  simp only [bigSepL, show (0 : Fin 5).val + 1 < 4 by decide, show (1 : Fin 5).val + 1 < 4 by decide, show (2 : Fin 5).val + 1 < 4 by decide, show ¬ (3 : Fin 5).val + 1 < 4 by decide, show (3 : Fin 5).val < 4 by decide, show ¬ (4 : Fin 5).val + 1 < 4 by decide, show ¬ (4 : Fin 5).val < 4 by decide, if_true, if_false]
  rw [Ring.slotAt_tail_role_n 4 _ _ _ t 0 1 rfl (by decide), Ring.slotAt_tail_role_n 4 _ _ _ t 1 2 rfl (by decide), Ring.slotAt_tail_role_n 4 _ _ _ t 2 3 rfl (by decide)]
  rfl

theorem in_end : RIn c X 16 = iprop(bigSep Finset.univ (inBlkP c X) ∗ bigSep Finset.univ (inFree c)) :=
  Ring.At_past_eq_free (inBlkP c X) 4 (inCell c) (inSlotP c) (inFl c X) 16 le_rfl

/-! ## The output ring -/

variable (G : Buf (Elt F) (dstM.view.loc (c : Thread nD τ)))

/-- Output slot `s` free, at anything. -/
abbrev outAny (s : Fin 5) : sProp 𝕄 := iprop(outCell c s ∗ ∃ f, outSlotP c s f)
/-- Output slot `s` free, its row 0 zero. -/
abbrev outFree (s : Fin 5) : sProp 𝕄 := iprop(outCell c s ∗ ∃ f, ⌜RowZero ((outSlot s).view.read (Elt F) f)⌝ ∗ outSlotP c s f)
/-- Block `b` on its way out of slot `s`. -/
abbrev outFl (s : Fin 5) (b : Fin 16) : sProp 𝕄 :=
  iprop(∃ f g, ⌜RowZero ((outSlot s).view.read (Elt F) f) ∧ (outBlk b).view.read (Elt F) g = stacked (xin c X b)⌝ ∗ outFlight c s b f g)
/-- Block `b` of the output written. -/
abbrev outDone (b : Fin 16) : sProp 𝕄 := iprop(∃ g, ⌜(outBlk b).view.read (Elt F) g = stacked (xin c X b)⌝ ∗ outBlkP c b g)
/-- Block `b` of the output as the kernel found it. -/
abbrev outNew (b : Fin 16) : sProp 𝕄 := outBlkP c b G
/-- The output ring before point `p`. -/
def ROut (p : ℕ) : sProp 𝕄 := Ring.AtBΦ 5 (outFree c) (outFl c X) (outNew c G) (outDone c X) p
/-- The output ring before the first point. -/
def ROut₀ : sProp 𝕄 := Ring.AtB₀ (outAny c) (outNew c G)
/-- The blocks not yet reached after point `t`. -/
def outAhead (t : ℕ) : sProp 𝕄 := bigSep (Ring.aheadSet (t + 1)) (outNew c G)
/-- The blocks written before point `t`. -/
def outBehind (t : ℕ) : sProp 𝕄 := bigSep (Ring.behindSet 5 t) (outDone c X)
/-- Role `j` of the output ring before point `t`. -/
abbrev outRole (t : ℕ) (j : Fin 5) : sProp 𝕄 := Ring.roleB 5 (outFree c) (outFl c X) t j

/-- No block is written before the first point. -/
theorem out_behind_zero : emp ⊢ outBehind c X 0 := by
  unfold outBehind
  rw [Ring.behindSet_boot 5 0 (by decide), BI.bigSep_empty]
  exact .rfl

theorem bigSep_five (P : Fin 5 → sProp 𝕄) : bigSep Finset.univ P = iprop(P 0 ∗ P 1 ∗ P 2 ∗ P 3 ∗ P 4) :=
  bigSep_univ_eq_bigSepL [0, 1, 2, 3, 4] univ5 nodup5 P

theorem out_start : ROut₀ c G = iprop((outNew c G (B 0) ∗ outAhead c G 0) ∗ outAny c (S 0) ∗ outAny c (S 1) ∗ outAny c (S 2) ∗ outAny c (S 3) ∗ outAny c (S 4)) := by
  unfold ROut₀ Ring.AtB₀ outAhead
  rw [bigSep_five, ← Ring.aheadSet_zero, Ring.aheadSet_open 0 (by decide), Ring.bigSep_put (Ring.bk_not_mem_aheadSet_succ 0 (by decide))]
  rfl

theorem out_here (t : ℕ) (ht : t < 16) : ROut c X G t = iprop((outNew c G (B t) ∗ outAhead c G t) ∗ outBehind c X t
    ∗ outRole c X t 0 ∗ outRole c X t 1 ∗ outRole c X t 2 ∗ outRole c X t 3 ∗ outRole c X t 4) := by
  unfold ROut
  rw [Ring.AtBΦ_lt _ _ _ _ _ t ht]
  unfold Ring.AtB outAhead outBehind
  rw [bigSep_five, Ring.aheadSet_open t ht, Ring.bigSep_put (Ring.bk_not_mem_aheadSet_succ t ht)]

theorem out_role_free (t : ℕ) (ht : t < 5) : outRole c X t 0 = outFree c (S t) :=
  Ring.roleB_of_free 5 _ _ t 0 (by simp; omega)
theorem out_role_init (j : Fin 5) (k : ℕ) (e : S (0 + j.val) = S k) : outRole c X 0 j = outFree c (S k) := by
  refine (Ring.roleB_of_free 5 _ _ 0 j (by simp)).trans ?_
  exact congrArg (outFree c) e
theorem out_role_go (t : ℕ) (j : Fin 5) (h : 5 ≤ t + j.val) : outRole c X t j = outFl c X (S (t + j.val)) (B (t + j.val - 5)) :=
  Ring.roleB_of_infl 5 _ _ t j ⟨h, by omega⟩
theorem out_role_wait (t : ℕ) (h : 5 ≤ t) : outRole c X t 0 = outFl c X (S t) (B (t - 5)) := out_role_go c X t 0 h
theorem out_role_wait₁ (t : ℕ) (h : 5 ≤ t) : outRole c X t 1 = outFl c X (S (t + 1)) (B (t + 1 - 5)) := out_role_go c X t 1 (Nat.le_add_right_of_le h)
theorem out_role_wait₂ (t : ℕ) (h : 5 ≤ t) : outRole c X t 2 = outFl c X (S (t + 2)) (B (t + 2 - 5)) := out_role_go c X t 2 (Nat.le_add_right_of_le h)
theorem out_role_wait₃ (t : ℕ) (h : 5 ≤ t) : outRole c X t 3 = outFl c X (S (t + 3)) (B (t + 3 - 5)) := out_role_go c X t 3 (Nat.le_add_right_of_le h)
theorem out_role_wait₄ (t : ℕ) (h : 5 ≤ t) : outRole c X t 4 = outFl c X (S (t + 4)) (B (t + 4 - 5)) := out_role_go c X t 4 (Nat.le_add_right_of_le h)
theorem out_role_shift (t : ℕ) (j j' : Fin 5) (h : j'.val = j.val + 1) : outRole c X (t + 1) j = outRole c X t j' := by
  unfold outRole Ring.roleB
  have e : t + 1 + j.val = t + j'.val := by omega
  simp only [e, h]
  congr 1
  exact propext ⟨fun ⟨a, _⟩ => ⟨a, by omega⟩, fun ⟨a, _⟩ => ⟨a, by omega⟩⟩
theorem out_role_last (t : ℕ) : outRole c X (t + 1) 4 = outFl c X (S t) (B t) := by
  rw [out_role_go c X (t + 1) 4 (by show 5 ≤ t + 1 + 4; omega)]
  show outFl c X (Ring.sl 5 (t + 5)) (Ring.bk 16 (t + 5 - 5)) = _
  rw [Ring.sl_add, Nat.add_sub_cancel]

theorem out_roles (t : ℕ) : bigSep Finset.univ (Ring.roleB 5 (outFree c) (outFl c X) (t + 1))
    = iprop(outRole c X t 1 ∗ outRole c X t 2 ∗ outRole c X t 3 ∗ outRole c X t 4 ∗ outFl c X (S t) (B t)) := by
  rw [← out_role_last, ← out_role_shift c X t 0 1 rfl, ← out_role_shift c X t 1 2 rfl, ← out_role_shift c X t 2 3 rfl, ← out_role_shift c X t 3 4 rfl]
  exact bigSep_five _

theorem out_next_boot (t : ℕ) (ht : t < 5) : ROut c X G (t + 1) = iprop(outAhead c G t ∗ outBehind c X t
    ∗ outRole c X t 1 ∗ outRole c X t 2 ∗ outRole c X t 3 ∗ outRole c X t 4 ∗ outFl c X (S t) (B t)) := by
  unfold ROut
  rw [Ring.AtBΦ_lt _ _ _ _ _ (t + 1) (by omega)]
  unfold Ring.AtB outAhead outBehind
  rw [out_roles, Ring.behindSet_boot 5 (t + 1) (by omega), Ring.behindSet_boot 5 t (by omega)]

theorem out_next (t : ℕ) (h5 : 5 ≤ t) (ht : t + 1 < 16) : ROut c X G (t + 1) = iprop(outAhead c G t ∗ (outDone c X (B (t - 5)) ∗ outBehind c X t)
    ∗ outRole c X t 1 ∗ outRole c X t 2 ∗ outRole c X t 3 ∗ outRole c X t 4 ∗ outFl c X (S t) (B t)) := by
  unfold ROut
  rw [Ring.AtBΦ_lt _ _ _ _ _ (t + 1) (by omega)]
  unfold Ring.AtB outAhead outBehind
  rw [out_roles, Ring.behindSet_close 5 t h5 (by omega), Ring.bigSep_put (Ring.bk_not_mem_behindSet 5 t h5 (by omega))]

/-- After the last point every block is written and every slot free. -/
theorem out_end_eq : ROut c X G 16 = iprop(bigSep Finset.univ (outDone c X) ∗ bigSep Finset.univ (outFree c)) :=
  Ring.AtBΦ_end _ _ _ _ _ 16 rfl

theorem out_end (t : ℕ) (ht : t = 15) :
    iprop((outDone c X (B (t - 5)) ∗ outDone c X (B (t + 1 - 5)) ∗ outDone c X (B (t + 2 - 5)) ∗ outDone c X (B (t + 3 - 5)) ∗ outDone c X (B (t + 4 - 5)) ∗ outDone c X (B t) ∗ outBehind c X t)
      ∗ outFree c (S t) ∗ outFree c (S (t + 1)) ∗ outFree c (S (t + 2)) ∗ outFree c (S (t + 3)) ∗ outFree c (S (t + 4))) ⊢ ROut c X G (t + 1) := by
  subst ht
  rw [show 15 + 1 = 16 from rfl, out_end_eq, ← Ring.bigSep_roles_eq (outFree c) 15, bigSep_five]
  unfold outBehind
  have e : (Finset.univ : Finset (Fin 16)) = insert (B 10) (insert (B 11) (insert (B 12) (insert (B 13) (insert (B 14) (insert (B 15) (Ring.behindSet 5 15)))))) := by decide +kernel
  rw [e, Ring.bigSep_put (by decide +kernel), Ring.bigSep_put (by decide +kernel), Ring.bigSep_put (by decide +kernel), Ring.bigSep_put (by decide +kernel), Ring.bigSep_put (by decide +kernel), Ring.bigSep_put (by decide +kernel)]
  exact .rfl

end Pieces

end Cert.KernelIdeal.Hand

end
-- ==== Proof.CopyBody.lean ====
/-
  The copying kernel: its body at each of its 16 points, from the state before the point to the state after it.
-/
module

public import proofs.«01_k».proof.Proof.CopyState

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (c : Dev nD) (X : Buf (Elt F) (srcM.view.loc (c : Thread nD τ))) (G : Buf (Elt F) (dstM.view.loc (c : Thread nD τ)))

/-! ## The pieces a point leaves, restated -/

/-- A block just issued is on its way in. -/
theorem inGo_intro (k : ℕ) (f : Buf (Elt F) ((inSlot (S k)).view.loc (c : Thread nD τ))) :
    inFlight c X (S k) (B k) ((inSlot (S k)).view.writes (Elt F) f [⟨Rect.whole S8x196x768, ReadAs.same.apply ((inBlk (B k)).view.read (Elt F) X)⟩]) ⊢ inGo c X k := by
  iintro H
  iexists _
  isplitr; swap; · iexact H
  ipureintro; exact in_landed c X _ _ _

/-- The slot's contents at point `t` after the block's rows are stored. -/
abbrev filled (t : Fin grid0.N) (fi : Buf (Elt F) ((inSlot (S t.val)).view.loc (c : Thread nD τ))) (fo : Buf (Elt F) ((outSlot (S t.val)).view.loc (c : Thread nD τ))) :
    Buf (Elt F) ((outSlot (S t.val)).view.loc (c : Thread nD τ)) :=
  outM.view.writes (Elt F) fo [⟨Rect.unit (s := S5x8x197x768) (k0_off14 (grid0.coords t)) S1x8x196x768.size (k0_off14_inb (grid0.coords t)),
    k0_pay1 (k0_pay7 (View.readAt (Elt F) inM.view (Rect.unit (s := S5x8x196x768) (k0_off9 (grid0.coords t)) S1x8x196x768.size (k0_off9_inb (grid0.coords t))).toLoadRect fi))⟩]

theorem filled_read (t : Fin grid0.N) (fi : Buf (Elt F) ((inSlot (S t.val)).view.loc (c : Thread nD τ))) (fo : Buf (Elt F) ((outSlot (S t.val)).view.loc (c : Thread nD τ)))
    (hi : (inSlot (S t.val)).view.read (Elt F) fi = xin c X (B t.val)) (ho : RowZero ((outSlot (S t.val)).view.read (Elt F) fo)) :
    (outSlot (S t.val)).view.read (Elt F) (filled c t fi fo) = stacked (xin c X (B t.val)) := by
  refine (out_stored c (S t.val) (off14_eq t) _ fo ho _).trans ?_
  rw [in_loaded c (S t.val) (off9_eq t), hi]

/-- What a point writes into its block of the output. -/
abbrev written (t : Fin grid0.N) (fi : Buf (Elt F) ((inSlot (S t.val)).view.loc (c : Thread nD τ))) (fo : Buf (Elt F) ((outSlot (S t.val)).view.loc (c : Thread nD τ)))
    (g : Buf (Elt F) ((outBlk (B t.val)).view.loc (c : Thread nD τ))) : Buf (Elt F) ((outBlk (B t.val)).view.loc (c : Thread nD τ)) :=
  (outBlk (B t.val)).view.writes (Elt F) g [⟨Rect.whole S8x197x768, ReadAs.same.apply ((outSlot (S t.val)).view.read (Elt F) (filled c t fi fo))⟩]

/-- Storing a block's rows, the store written as one write. -/
theorem out_stored_one {off : Fin 4 → ℕ} (s : Fin 5) (e : off = rowOff s) (hh) (f : Buf (Elt F) ((outSlot s).view.loc (c : Thread nD τ)))
    (h0 : RowZero ((outSlot s).view.read (Elt F) f)) (x : FVec F S8x196x768 .f32) :
    (outSlot s).view.read (Elt F) (View.write (Val := Elt F) (outM.access (Rect.unit (s := S5x8x197x768) off S1x8x196x768.size hh)) f (k0_pay1 x) Finset.univ) = stacked x :=
  out_stored c s e hh f h0 x

/-- The zeros in a slot's row 0, the store written as one write. -/
theorem out_zeroed_one (s : Fin 5) {off : Fin 4 → ℕ} (e : off = slotOff s) (hh) (f : Buf (Elt F) ((outSlot s).view.loc (c : Thread nD τ)))
    (w : FVec F S1x8x1x768 .f32) (hw : ∀ j, w j = zeroF) :
    RowZero ((outSlot s).view.read (Elt F) (View.write (Val := Elt F) (outM.access (Rect.unit (s := S5x8x197x768) off S1x8x1x768.size hh)) f w Finset.univ)) :=
  out_zeroed c s e hh f w hw

/-- A slot on its way out. -/
theorem outFl_of (s : Fin 5) (b : Fin 16) (f : Buf (Elt F) ((outSlot s).view.loc (c : Thread nD τ))) (g : Buf (Elt F) ((outBlk b).view.loc (c : Thread nD τ)))
    (h : RowZero ((outSlot s).view.read (Elt F) f) ∧ (outBlk b).view.read (Elt F) g = stacked (xin c X b)) :
    outFlight c s b f g ⊢ outFl c X s b := by
  iintro H
  iexists f; iexists g
  isplitr; swap; · iexact H
  ipureintro; exact h

/-- A slot just issued is on its way out. -/
theorem outFl_intro (t : Fin grid0.N) (fi : Buf (Elt F) ((inSlot (S t.val)).view.loc (c : Thread nD τ))) (fo : Buf (Elt F) ((outSlot (S t.val)).view.loc (c : Thread nD τ)))
    (g : Buf (Elt F) ((outBlk (B t.val)).view.loc (c : Thread nD τ)))
    (hi : (inSlot (S t.val)).view.read (Elt F) fi = xin c X (B t.val)) (ho : RowZero ((outSlot (S t.val)).view.read (Elt F) fo)) :
    outFlight c (S t.val) (B t.val) (filled c t fi fo) (written c t fi fo g) ⊢ outFl c X (S t.val) (B t.val) := by
  have hr := filled_read c X t fi fo hi ho
  exact outFl_of c X _ _ _ _ ⟨by rw [hr]; exact rowZero_stacked _, (out_landed c _ _ _ _).trans hr⟩

/-- The sums gathered before point `p`, held. -/
abbrev sumsTo (p : ℕ) : sProp 𝕄 := iprop(∃ f, ⌜SumsTo c X p f⌝ ∗ sumP c f)

/-- The sums after a point. -/
theorem sums_intro (t : Fin grid0.N) (fi : Buf (Elt F) ((inSlot (S t.val)).view.loc (c : Thread nD τ))) (fs : Buf (Elt F) (sumM.view.loc (c : Thread nD τ)))
    (hi : (inSlot (S t.val)).view.read (Elt F) fi = xin c X (B t.val)) (hs : SumsTo c X t.val fs) :
    SumsTo c X (t.val + 1) (sumM.view.writes (Elt F) fs [⟨Rect.unit (s := S128x768) (k0_off10 (grid0.coords t)) S8x768.size (k0_off10_inb (grid0.coords t)),
      k0_pay8 (View.readAt (Elt F) inM.view (Rect.unit (s := S5x8x196x768) (k0_off9 (grid0.coords t)) S1x8x196x768.size (k0_off9_inb (grid0.coords t))).toLoadRect fi)⟩]) := by
  refine sums_step c X t.val t.isLt (off10_eq t) _ fs hs _ ?_
  rw [← hi, ← in_loaded c (S t.val) (off9_eq t) (k0_off9_inb (grid0.coords t)) fi]
  exact shapeCast_self _ _

/-! ## The points -/

/-- What the kernel holds before a point other than the first, and after one other than the last, besides its sums' array. -/
abbrev held (p : ℕ) : sProp 𝕄 := iprop(RIn c X p ∗ ROut c X G p ∗ sumsTo c X p ∗ ∃ W, owes (c : Thread nD τ) 0 W)

theorem run_mid (t : Fin grid0.N) (h5 : 5 ≤ t.val) (h11 : t.val + 4 < 16) :
    held c X G t.val ⊢ wp frame (wpE (defs₀ (F := F)) 𝒱₀ (c : Thread nD τ) none) Set.univ (bodyC t) (fun _ => held c X G (t.val + 1)) := by
  have h1 : ¬ k0_cond1 (grid0.coords t) = 1#1 := fun h => by rw [cond1_iff] at h; omega
  have h2 : k0_cond2 (grid0.coords t) = 1#1 := (cond2_iff t).2 h11
  have h3 : k0_cond3 (grid0.coords t) = 1#1 := (cond3_iff t).2 h5
  have h4 : ¬ k0_cond4 (grid0.coords t) = 1#1 := fun h => by rw [cond4_iff] at h; omega
  unfold held
  rw [in_here c X t.val h11, in_next c X t.val h11, out_here c X G t.val (by omega), out_next c X G t.val h5 (by omega),
    out_role_wait c X t.val h5]
  iintro ⟨⟨⟨HB, Hrest⟩, ⟨%fi, %hi, HF⟩, I1, I2, I3, HC, %fi', HS⟩, ⟨⟨HG, Hah⟩, Hbe, ⟨%fo, %go, %ho, HO⟩, R1, R2, R3, R4⟩, ⟨%fs, %hs, HM⟩, %W, HW⟩
  dsimp only [bodyC]
  sl_unfold [cc0__copy_sum_body]
  sl_exec
  sl_step
  isplitl [HF_src Hrest I1 I2 I3 HC HF HF_dst]
  · isplitl [HF_src Hrest]
    · isplitl [HF_src] <;> iassumption
    isplitl [I1]; · iexact I1
    isplitl [I2]; · iexact I2
    isplitl [I3]; · iexact I3
    isplitl [HC]; · iapply (inGo_intro c X (t.val + 4) fi'); iexact HC
    isplitl [HF]; · iexact HF
    iexists fi; iexact HF_dst
  isplitl [Hah HO_dst Hbe R1 R2 R3 R4 HO]
  · isplitl [Hah]; · iexact Hah
    isplitl [HO_dst Hbe]
    · isplitl [HO_dst]; · iexists go; isplitr; · ipureintro; exact ho.2
                          iexact HO_dst
      iexact Hbe
    isplitl [R1]; · iexact R1
    isplitl [R2]; · iexact R2
    isplitl [R3]; · iexact R3
    isplitl [R4]; · iexact R4
    iapply (outFl_intro c X t fi fo G hi ho.1); iexact HO
  isplitl [HM]
  · iexists _; isplitr; swap; · iexact HM
    ipureintro; exact sums_intro c X t fi fs hi hs
  iexists _; iexact HW

/-- Points 1 to 4: the slot is free, at row 0 zero. -/
theorem run_early (t : Fin grid0.N) (h1' : 1 ≤ t.val) (h5 : t.val < 5) :
    held c X G t.val ⊢ wp frame (wpE (defs₀ (F := F)) 𝒱₀ (c : Thread nD τ) none) Set.univ (bodyC t) (fun _ => held c X G (t.val + 1)) := by
  have h11 : t.val + 4 < 16 := by omega
  have h1 : ¬ k0_cond1 (grid0.coords t) = 1#1 := fun h => by rw [cond1_iff] at h; omega
  have h2 : k0_cond2 (grid0.coords t) = 1#1 := (cond2_iff t).2 h11
  have h3 : ¬ k0_cond3 (grid0.coords t) = 1#1 := fun h => by rw [cond3_iff] at h; omega
  have h4 : ¬ k0_cond4 (grid0.coords t) = 1#1 := fun h => by rw [cond4_iff] at h; omega
  unfold held
  rw [in_here c X t.val h11, in_next c X t.val h11, out_here c X G t.val (by omega), out_next_boot c X G t.val h5,
    out_role_free c X t.val h5]
  iintro ⟨⟨⟨HB, Hrest⟩, ⟨%fi, %hi, HF⟩, I1, I2, I3, HC, %fi', HS⟩, ⟨⟨HG, Hah⟩, Hbe, ⟨HOC, %fo, %ho, HO⟩, R1, R2, R3, R4⟩, ⟨%fs, %hs, HM⟩, %W, HW⟩
  dsimp only [bodyC]
  sl_unfold [cc0__copy_sum_body]
  sl_exec
  sl_step
  isplitl [HF_src Hrest I1 I2 I3 HC HF HF_dst]
  · isplitl [HF_src Hrest]
    · isplitl [HF_src] <;> iassumption
    isplitl [I1]; · iexact I1
    isplitl [I2]; · iexact I2
    isplitl [I3]; · iexact I3
    isplitl [HC]; · iapply (inGo_intro c X (t.val + 4) fi'); iexact HC
    isplitl [HF]; · iexact HF
    iexists fi; iexact HF_dst
  isplitl [Hah Hbe R1 R2 R3 R4 HOC]
  · isplitl [Hah]; · iexact Hah
    isplitl [Hbe]; · iexact Hbe
    isplitl [R1]; · iexact R1
    isplitl [R2]; · iexact R2
    isplitl [R3]; · iexact R3
    isplitl [R4]; · iexact R4
    iapply (outFl_intro c X t fi fo G hi ho); iexact HOC
  isplitl [HM]
  · iexists _; isplitr; swap; · iexact HM
    ipureintro; exact sums_intro c X t fi fs hi hs
  iexists _; iexact HW

/-- Points 12 to 14: no block is left to ask for. -/
theorem run_late (t : Fin grid0.N) (h12 : 16 ≤ t.val + 4) (h14 : t.val < 15) :
    held c X G t.val ⊢ wp frame (wpE (defs₀ (F := F)) 𝒱₀ (c : Thread nD τ) none) Set.univ (bodyC t) (fun _ => held c X G (t.val + 1)) := by
  have h5 : 5 ≤ t.val := by omega
  have h1 : ¬ k0_cond1 (grid0.coords t) = 1#1 := fun h => by rw [cond1_iff] at h; omega
  have h2 : ¬ k0_cond2 (grid0.coords t) = 1#1 := fun h => by rw [cond2_iff] at h; omega
  have h3 : k0_cond3 (grid0.coords t) = 1#1 := (cond3_iff t).2 h5
  have h4 : ¬ k0_cond4 (grid0.coords t) = 1#1 := fun h => by rw [cond4_iff] at h; omega
  unfold held
  rw [in_here_tail c X t.val (by omega), in_next_tail c X t.val h12 (by omega), out_here c X G t.val (by omega), out_next c X G t.val h5 (by omega),
    out_role_wait c X t.val h5]
  iintro ⟨⟨Hrest, ⟨%fi, %hi, HF⟩, I1, I2, I3, HC⟩, ⟨⟨HG, Hah⟩, Hbe, ⟨%fo, %go, %ho, HO⟩, R1, R2, R3, R4⟩, ⟨%fs, %hs, HM⟩, %W, HW⟩
  dsimp only [bodyC]
  sl_unfold [cc0__copy_sum_body]
  sl_exec
  sl_step
  isplitl [HF_src Hrest I1 I2 I3 HC HF HF_dst]
  · isplitl [HF_src Hrest]
    · isplitl [HF_src] <;> iassumption
    isplitl [I1]; · iexact I1
    isplitl [I2]; · iexact I2
    isplitl [I3]; · iexact I3
    isplitl [HC]; · iexact HC
    isplitl [HF]; · iexact HF
    iexists fi; iexact HF_dst
  isplitl [Hah HO_dst Hbe R1 R2 R3 R4 HO]
  · isplitl [Hah]; · iexact Hah
    isplitl [HO_dst Hbe]
    · isplitl [HO_dst]; · iexists go; isplitr; · ipureintro; exact ho.2
                          iexact HO_dst
      iexact Hbe
    isplitl [R1]; · iexact R1
    isplitl [R2]; · iexact R2
    isplitl [R3]; · iexact R3
    isplitl [R4]; · iexact R4
    iapply (outFl_intro c X t fi fo G hi ho.1); iexact HO
  isplitl [HM]
  · iexists _; isplitr; swap; · iexact HM
    ipureintro; exact sums_intro c X t fi fs hi hs
  iexists _; iexact HW

/-- The first point's slots. -/
abbrev t0 : Fin grid0.N := ⟨0, by decide⟩

/-- A free output slot, its row 0 zero. -/
theorem outFree_of (s : Fin 5) (f : Buf (Elt F) ((outSlot s).view.loc (c : Thread nD τ))) (h : RowZero ((outSlot s).view.read (Elt F) f)) :
    iprop(outCell c s ∗ outSlotP c s f) ⊢ outFree c s := by
  iintro ⟨HC, H⟩
  isplitl [HC]; · iexact HC
  iexists f
  isplitr; swap; · iexact H
  ipureintro; exact h

/-- A block of the output, written. -/
theorem outDone_intro (b : Fin 16) (g : Buf (Elt F) ((outBlk b).view.loc (c : Thread nD τ))) (h : (outBlk b).view.read (Elt F) g = stacked (xin c X b)) :
    outBlkP c b g ⊢ outDone c X b := by
  iintro H
  iexists g
  isplitr; swap; · iexact H
  ipureintro; exact h

/-- A free slot at row 0 zero, once its zeros are written. -/
theorem outFree_intro (s : Fin 5) {off : Fin 4 → ℕ} (e : off = slotOff s) (hh) (f : Buf (Elt F) ((outSlot s).view.loc (c : Thread nD τ)))
    (w : FVec F S1x8x1x768 .f32) (hw : ∀ j, w j = zeroF) :
    iprop(outCell c s ∗ outSlotP c s (outM.view.writes (Elt F) f [⟨Rect.unit (s := S5x8x197x768) off S1x8x1x768.size hh, w⟩])) ⊢ outFree c s := by
  exact outFree_of c s _ (out_zeroed c s e hh f w hw)

/-- The first point. -/
theorem run_first : iprop(RIn₀ c X ∗ ROut₀ c G ∗ sumsTo c X 0 ∗ ∃ W, owes (c : Thread nD τ) 0 W)
    ⊢ wp frame (wpE (defs₀ (F := F)) 𝒱₀ (c : Thread nD τ) none) Set.univ (bodyC t0) (fun _ => held c X G (0 + 1)) := by
  have h1 : k0_cond1 (grid0.coords t0) = 1#1 := (cond1_iff t0).2 rfl
  have h2 : k0_cond2 (grid0.coords t0) = 1#1 := (cond2_iff t0).2 (by decide)
  have h3 : ¬ k0_cond3 (grid0.coords t0) = 1#1 := fun h => by rw [cond3_iff] at h; exact absurd h (by decide)
  have h4 : ¬ k0_cond4 (grid0.coords t0) = 1#1 := fun h => by rw [cond4_iff] at h; exact absurd h (by decide)
  have h04 : (t0).val + 4 < 16 := by decide
  unfold held
  rw [in_start, out_start, in_next c X 0 h04, out_next_boot c X G 0 (by decide), out_role_init c X 1 1 rfl, out_role_init c X 2 2 rfl, out_role_init c X 3 3 rfl, out_role_init c X 4 4 rfl]
  iintro ⟨⟨⟨K0, K1, K2, K3, K4, Hrest⟩, ⟨C0, %a0, A0⟩, ⟨C1, %a1, A1⟩, ⟨C2, %a2, A2⟩, ⟨C3, %a3, A3⟩, ⟨C4, %a4, A4⟩⟩,
    ⟨⟨HG, Hah⟩, ⟨HC, %b0, O0⟩, ⟨D1, %b1, O1⟩, ⟨D2, %b2, O2⟩, ⟨D3, %b3, O3⟩, ⟨D4, %b4, O4⟩⟩, ⟨%fs, %hs, HM⟩, %W, HW⟩
  dsimp only [bodyC]
  sl_unfold [cc0__copy_sum_body]
  sl_exec
  sl_step
  have hi : (inSlot (S t0.val)).view.read (Elt F) ((inSlot (S 0)).view.writes (Elt F) (inSlot (S 0)).view.junk [⟨Rect.whole S8x196x768, ReadAs.same.apply ((inBlk (B 0)).view.read (Elt F) X)⟩]) = xin c X (B t0.val) := in_landed c X (S 0) (B 0) _
  have hz : ∀ j, (k0_pay2 (F := F)) j = zeroF := fun _ => rfl
  isplitl [K0 Hrest C1 C2 C3 C4 C0 A0]
  · isplitl [K0 Hrest]
    · isplitl [K0] <;> iassumption
    isplitl [C1]; · iapply (inGo_intro c X (0 + 1) a1); iexact C1
    isplitl [C2]; · iapply (inGo_intro c X (0 + 2) a2); iexact C2
    isplitl [C3]; · iapply (inGo_intro c X (0 + 3) a3); iexact C3
    isplitl [C4]; · iapply (inGo_intro c X (0 + 4) a4); iexact C4
    isplitl [C0]; · iexact C0
    iexists _; iexact A0
  isplitl [Hah D1 O1 D2 O2 D3 O3 D4 O4 HC]
  · isplitl [Hah]; · iexact Hah
    isplitl []; · iapply (out_behind_zero c X); itrivial
    isplitl [D1 O1]; · iapply (outFree_intro c (S 1) (by decide : ![1, 0, 0, 0] = slotOff (S 1)) inb_S5x8x197x768_S1x8x1x768_1_0_0_0 b1 k0_pay3 hz); isplitl [D1]; (· iexact D1); iexact O1
    isplitl [D2 O2]; · iapply (outFree_intro c (S 2) (by decide : ![2, 0, 0, 0] = slotOff (S 2)) inb_S5x8x197x768_S1x8x1x768_2_0_0_0 b2 k0_pay4 hz); isplitl [D2]; (· iexact D2); iexact O2
    isplitl [D3 O3]; · iapply (outFree_intro c (S 3) (by decide : ![3, 0, 0, 0] = slotOff (S 3)) inb_S5x8x197x768_S1x8x1x768_3_0_0_0 b3 k0_pay5 hz); isplitl [D3]; (· iexact D3); iexact O3
    isplitl [D4 O4]; · iapply (outFree_intro c (S 4) (by decide : ![4, 0, 0, 0] = slotOff (S 4)) inb_S5x8x197x768_S1x8x1x768_4_0_0_0 b4 k0_pay6 hz); isplitl [D4]; (· iexact D4); iexact O4
    have hr : (outSlot (S 0)).view.read (Elt F) (run_first.sl.O0_w6 c X b0) = stacked (xin c X (B 0)) := by
      delta run_first.sl.O0_w6
      refine (out_stored_one c (S 0) (off14_eq t0) (k0_off14_inb (grid0.coords t0)) (run_first.sl.O0_w1 c b0) ?_ (run_first.sl.r c X)).trans (congrArg stacked ?_)
      · exact out_zeroed_one c (S 0) (by decide : ![0, 0, 0, 0] = slotOff (S 0)) inb_S5x8x197x768_S1x8x1x768_0_0_0_0 b0 k0_pay2 hz
      · exact (in_loaded c (S 0) (off9_eq t0) (k0_off9_inb (grid0.coords t0)) _).trans hi
    have hg : (outBlk (B 0)).view.read (Elt F) ((outBlk (B 0)).view.writes (Elt F) G [⟨Rect.whole S8x197x768, run_first.sl.dma15 c X b0⟩]) = stacked (xin c X (B 0)) :=
      (View.read_writes_whole _ _ _).trans hr
    iapply (outFl_of c X (S 0) (B 0) (run_first.sl.O0_w6 c X b0) _ ⟨by rw [hr]; exact rowZero_stacked _, hg⟩); iexact HC
  isplitl [HM]
  · iexists _; isplitr; swap; · iexact HM
    ipureintro; exact sums_intro c X t0 _ fs hi hs
  iexists _; iexact HW

/-- The sums array holds every example's sums. -/
abbrev sumsOut : sProp 𝕄 := iprop(∃ f, ⌜sumH.view.read (Elt F) f = allSums c X⌝ ∗ sumHP c f)

/-- The sums copied out once every point's are gathered. -/
theorem sums_copied (fs : Buf (Elt F) (sumM.view.loc (c : Thread nD τ))) (fh : Buf (Elt F) (sumH.view.loc (c : Thread nD τ))) (hs : SumsTo c X 16 fs) :
    sumH.view.read (Elt F) (View.write (Val := Elt F) sumH.view fh (ReadAs.same.apply (sumM.view.read (Elt F) fs)) Finset.univ) = allSums c X := by
  refine (View.read_write_univ _ _).trans ?_
  funext y
  exact hs y (by have : (y (0 : Fin 2)).val < 128 := (y (0 : Fin 2)).isLt; omega)

/-- The last point: its own block, then every copy still under way and the sums. -/
theorem run_last (t : Fin grid0.N) (h15 : t.val = 15) :
    iprop(held c X G t.val ∗ (∃ f, sumHP c f) ∗ sumCell c) ⊢ wp frame (wpE (defs₀ (F := F)) 𝒱₀ (c : Thread nD τ) none) Set.univ (bodyC t)
      (fun _ => iprop(held c X G (t.val + 1) ∗ sumsOut c X ∗ sumCell c)) := by
  have h1 : ¬ k0_cond1 (grid0.coords t) = 1#1 := fun h => by rw [cond1_iff] at h; omega
  have h2 : ¬ k0_cond2 (grid0.coords t) = 1#1 := fun h => by rw [cond2_iff] at h; omega
  have h3 : k0_cond3 (grid0.coords t) = 1#1 := (cond3_iff t).2 (by omega)
  have h4 : k0_cond4 (grid0.coords t) = 1#1 := (cond4_iff t).2 h15
  have h5 : k0_cond5 (grid0.coords t) = 1#1 := (cond5_iff t).2 (by omega)
  have h6 : k0_cond6 (grid0.coords t) = 1#1 := (cond6_iff t).2 (by omega)
  have h7 : k0_cond7 (grid0.coords t) = 1#1 := (cond7_iff t).2 (by omega)
  have h8 : k0_cond8 (grid0.coords t) = 1#1 := (cond8_iff t).2 (by omega)
  have h9 : k0_cond9 (grid0.coords t) = 1#1 := (cond9_iff t).2 (by omega)
  have h10 : 5 ≤ t.val := by omega
  unfold held
  rw [in_here_tail c X t.val (by omega), in_next_tail c X t.val (by omega) (by omega), out_here c X G t.val (by omega),
    out_role_wait c X t.val h10, out_role_wait₁ c X t.val h10, out_role_wait₂ c X t.val h10, out_role_wait₃ c X t.val h10, out_role_wait₄ c X t.val h10]
  iintro ⟨⟨⟨Hrest, ⟨%fi, %hi, HF⟩, I1, I2, I3, HC⟩, ⟨⟨HG, Hah⟩, Hbe, ⟨%fo, %go, %ho, HO⟩, ⟨%f1, %g1, %e1, H1⟩, ⟨%f2, %g2, %e2, H2⟩, ⟨%f3, %g3, %e3, H3⟩, %f4, %g4, %e4, H4⟩, ⟨%fs, %hs, HM⟩, %W, HW⟩, ⟨%fh, HH⟩, HS⟩
  dsimp only [bodyC]
  sl_unfold [cc0__copy_sum_body]
  sl_exec
  sl_step
  isplitr [HS HH]; swap
  · isplitr [HS]; swap; · iexact HS
    iexists _; isplitr; swap; · iexact HH
    ipureintro
    refine sums_copied c X _ fh ?_
    have h := sums_intro c X t fi fs hi hs
    rw [h15] at h
    exact h
  isplitl [HF_src Hrest I1 I2 I3 HC HF HF_dst]
  · isplitl [HF_src Hrest]
    · isplitl [HF_src] <;> iassumption
    isplitl [I1]; · iexact I1
    isplitl [I2]; · iexact I2
    isplitl [I3]; · iexact I3
    isplitl [HC]; · iexact HC
    isplitl [HF]; · iexact HF
    iexists fi; iexact HF_dst
  isplitr [HM HW]
  · have hr := filled_read c X t fi fo hi ho.1
    iapply (out_end c X G t.val h15)
    isplitl [HO_dst H1_dst H2_dst H3_dst H4_dst HG Hbe]
    · isplitl [HO_dst]; · iapply (outDone_intro c X _ go ho.2); iexact HO_dst
      isplitl [H1_dst]; · iapply (outDone_intro c X _ g1 e1.2); iexact H1_dst
      isplitl [H2_dst]; · iapply (outDone_intro c X _ g2 e2.2); iexact H2_dst
      isplitl [H3_dst]; · iapply (outDone_intro c X _ g3 e3.2); iexact H3_dst
      isplitl [H4_dst]; · iapply (outDone_intro c X _ g4 e4.2); iexact H4_dst
      isplitl [HG]; · iapply (outDone_intro c X _ (written c t fi fo G) ((out_landed c _ _ _ _).trans hr)); iexact HG
      iexact Hbe
    isplitl [HO HO_src]; · iapply (outFree_of c (S t.val) (filled c t fi fo) (by rw [hr]; exact rowZero_stacked _)); isplitl [HO]; (· iexact HO); iexact HO_src
    isplitl [H1 H1_src]; · iapply (outFree_of c _ f1 e1.1); isplitl [H1] <;> iassumption
    isplitl [H2 H2_src]; · iapply (outFree_of c _ f2 e2.1); isplitl [H2] <;> iassumption
    isplitl [H3 H3_src]; · iapply (outFree_of c _ f3 e3.1); isplitl [H3] <;> iassumption
    iapply (outFree_of c _ f4 e4.1); isplitl [H4] <;> iassumption
  isplitl [HM]
  · iexists _; isplitr; swap; · iexact HM
    ipureintro; exact sums_intro c X t fi fs hi hs
  iexists _; iexact HW

end Body

end Cert.KernelIdeal.Hand

end
-- ==== Proof.CopyEnds.lean ====
/-
  The copying kernel's two ends: the buffers it is given cut into blocks and slots, and the same pieces put together
  again once every block is written.
-/
module

public import proofs.«01_k».proof.Proof.CopyBody

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-! ## Element sets -/

theorem inBlk_set (b : Fin 16) : (inBlk b).view.set = (Rect.unit (s := S128x196x768) (blkOff b) S8x196x768.size (inBlk_inb b)).set := View.set_slice_whole _ _
theorem outBlk_set (b : Fin 16) : (outBlk b).view.set = (Rect.unit (s := S128x197x768) (blkOff b) S8x197x768.size (outBlk_inb b)).set := View.set_slice_whole _ _
theorem inSlot_set (s : Fin 5) : (inSlot s).view.set = (Rect.unit (s := S5x8x196x768) (slotOff s) S1x8x196x768.size (inSlot_inb s)).set :=
  (View.set_reshape _ _).trans (View.set_slice_whole _ _)
theorem outSlot_set (s : Fin 5) : (outSlot s).view.set = (Rect.unit (s := S5x8x197x768) (slotOff s) S1x8x197x768.size (outSlot_inb s)).set :=
  (View.set_reshape _ _).trans (View.set_slice_whole _ _)

abbrev inBlkS (b : Fin 16) : Finset S128x196x768.Idx := (inBlk b).view.set
abbrev outBlkS (b : Fin 16) : Finset S128x197x768.Idx := (outBlk b).view.set
abbrev inSlotS (s : Fin 5) : Finset S5x8x196x768.Idx := (inSlot s).view.set
abbrev outSlotS (s : Fin 5) : Finset S5x8x197x768.Idx := (outSlot s).view.set

theorem inBlkS_disjoint (b b' : Fin 16) (h : b ≠ b') : Disjoint (inBlkS b) (inBlkS b') := by
  unfold inBlkS; rw [inBlk_set, inBlk_set]
  exact Ring.lead_disjoint (s := S128x196x768) (0 : Fin 3) 8 blkOff S8x196x768.size inBlk_inb (fun _ => rfl) rfl b b' h
theorem inBlkS_cover : Finset.univ.biUnion inBlkS = Finset.univ := by
  rw [show inBlkS = fun b => _ from funext inBlk_set]
  exact Ring.lead_cover (s := S128x196x768) (0 : Fin 3) 8 blkOff S8x196x768.size inBlk_inb (fun _ => rfl) (by decide) rfl (by decide) rfl
theorem outBlkS_disjoint (b b' : Fin 16) (h : b ≠ b') : Disjoint (outBlkS b) (outBlkS b') := by
  unfold outBlkS; rw [outBlk_set, outBlk_set]
  exact Ring.lead_disjoint (s := S128x197x768) (0 : Fin 3) 8 blkOff S8x197x768.size outBlk_inb (fun _ => rfl) rfl b b' h
theorem outBlkS_cover : Finset.univ.biUnion outBlkS = Finset.univ := by
  rw [show outBlkS = fun b => _ from funext outBlk_set]
  exact Ring.lead_cover (s := S128x197x768) (0 : Fin 3) 8 blkOff S8x197x768.size outBlk_inb (fun _ => rfl) (by decide) rfl (by decide) rfl
theorem inSlotS_disjoint (b b' : Fin 5) (h : b ≠ b') : Disjoint (inSlotS b) (inSlotS b') := by
  unfold inSlotS; rw [inSlot_set, inSlot_set]
  exact Ring.lead_disjoint (s := S5x8x196x768) (0 : Fin 4) 1 slotOff S1x8x196x768.size inSlot_inb (fun b => (Nat.one_mul b.val).symm) rfl b b' h
theorem inSlotS_cover : Finset.univ.biUnion inSlotS = Finset.univ := by
  rw [show inSlotS = fun b => _ from funext inSlot_set]
  exact Ring.lead_cover (s := S5x8x196x768) (0 : Fin 4) 1 slotOff S1x8x196x768.size inSlot_inb (fun b => (Nat.one_mul b.val).symm) (by decide) rfl (by decide) rfl
theorem outSlotS_disjoint (b b' : Fin 5) (h : b ≠ b') : Disjoint (outSlotS b) (outSlotS b') := by
  unfold outSlotS; rw [outSlot_set, outSlot_set]
  exact Ring.lead_disjoint (s := S5x8x197x768) (0 : Fin 4) 1 slotOff S1x8x197x768.size outSlot_inb (fun b => (Nat.one_mul b.val).symm) rfl b b' h
theorem outSlotS_cover : Finset.univ.biUnion outSlotS = Finset.univ := by
  rw [show outSlotS = fun b => _ from funext outSlot_set]
  exact Ring.lead_cover (s := S5x8x197x768) (0 : Fin 4) 1 slotOff S1x8x197x768.size outSlot_inb (fun b => (Nat.one_mul b.val).symm) (by decide) rfl (by decide) rfl

section Ends
variable (c : Dev nD) (X : Buf (Elt F) (srcM.view.loc (c : Thread nD τ))) (G : Buf (Elt F) (dstM.view.loc (c : Thread nD τ)))

/-- The patches whole are their sixteen blocks. -/
theorem src_blocks : (((c : Thread nD τ).loc main_arg1) ↦{fullShare} X : sProp 𝕄) = bigSep Finset.univ (inBlkP c X) :=
  Ring.pointsTo_blocks (ℓ := (c : Thread nD τ).loc main_arg1) inBlkS inBlkS_disjoint inBlkS_cover X
/-- The output whole is its sixteen blocks. -/
theorem dst_blocks : (((c : Thread nD τ).loc main_v1_0) ↦{fullShare} G : sProp 𝕄) = bigSep Finset.univ (outNew c G) :=
  Ring.pointsTo_blocks (ℓ := (c : Thread nD τ).loc main_v1_0) outBlkS outBlkS_disjoint outBlkS_cover G

/-- The input scratch whole is its five slots; -/
theorem in_slots_split : iprop(∃ f : Buf (Elt F) ((c : Thread nD τ).loc cc0_scratch0), ((c : Thread nD τ).loc cc0_scratch0) ↦{fullShare} f)
    ⊢ (bigSep Finset.univ (fun s => iprop(∃ f, inSlotP c s f)) : sProp 𝕄) := by
  rw [bigSep_five]
  exact Ring.slots_split_n (ℓ := (c : Thread nD τ).loc cc0_scratch0) inSlotS inSlotS_disjoint inSlotS_cover [0, 1, 2, 3, 4] univ5 nodup5 (inSlotP c) (fun _ _ => rfl)
/-- and back. -/
theorem in_slots_join : (bigSep Finset.univ (fun s => iprop(∃ f, inSlotP c s f)) : sProp 𝕄)
    ⊢ iprop(∃ f : Buf (Elt F) ((c : Thread nD τ).loc cc0_scratch0), ((c : Thread nD τ).loc cc0_scratch0) ↦{fullShare} f) := by
  rw [bigSep_five]
  exact Ring.slots_join_n (ℓ := (c : Thread nD τ).loc cc0_scratch0) inSlotS inSlotS_disjoint inSlotS_cover [0, 1, 2, 3, 4] univ5 nodup5 (inSlotP c) (fun _ _ => rfl)
/-- The output scratch whole is its five slots; -/
theorem out_slots_split : iprop(∃ f : Buf (Elt F) ((c : Thread nD τ).loc cc0_scratch1), ((c : Thread nD τ).loc cc0_scratch1) ↦{fullShare} f)
    ⊢ (bigSep Finset.univ (fun s => iprop(∃ f, outSlotP c s f)) : sProp 𝕄) := by
  rw [bigSep_five]
  exact Ring.slots_split_n (ℓ := (c : Thread nD τ).loc cc0_scratch1) outSlotS outSlotS_disjoint outSlotS_cover [0, 1, 2, 3, 4] univ5 nodup5 (outSlotP c) (fun _ _ => rfl)
/-- and back. -/
theorem out_slots_join : (bigSep Finset.univ (fun s => iprop(∃ f, outSlotP c s f)) : sProp 𝕄)
    ⊢ iprop(∃ f : Buf (Elt F) ((c : Thread nD τ).loc cc0_scratch1), ((c : Thread nD τ).loc cc0_scratch1) ↦{fullShare} f) := by
  rw [bigSep_five]
  exact Ring.slots_join_n (ℓ := (c : Thread nD τ).loc cc0_scratch1) outSlotS outSlotS_disjoint outSlotS_cover [0, 1, 2, 3, 4] univ5 nodup5 (outSlotP c) (fun _ _ => rfl)

/-- A free slot is its semaphore and its elements, for all five at once. -/
theorem in_free_sep : bigSep Finset.univ (inFree c) = (iprop(bigSep Finset.univ (inCell c) ∗ bigSep Finset.univ (fun s => iprop(∃ f, inSlotP c s f))) : sProp 𝕄) :=
  bigSep_sep _ _ _
theorem out_any_sep : bigSep Finset.univ (outAny c) = (iprop(bigSep Finset.univ (outCell c) ∗ bigSep Finset.univ (fun s => iprop(∃ f, outSlotP c s f))) : sProp 𝕄) :=
  bigSep_sep _ _ _
/-- A slot whose row 0 is known is a slot at anything. -/
theorem out_free_any : bigSep Finset.univ (outFree c) ⊢ (bigSep Finset.univ (outAny c) : sProp 𝕄) :=
  BI.bigSep_mono fun s _ => show iprop(outCell c s ∗ ∃ f, ⌜RowZero ((outSlot s).view.read (Elt F) f)⌝ ∗ outSlotP c s f) ⊢ iprop(outCell c s ∗ ∃ f, outSlotP c s f) from by
    iintro ⟨HC, %f, -, H⟩
    isplitl [HC]; · iexact HC
    iexists f; iexact H

/-- The kernel's output: each example's 197 rows, row 0 zero. -/
def assembled : Buf (Elt F) (dstM.view.loc (c : Thread nD τ)) := fun y : S128x197x768.Idx =>
  stacked (xin c X (B ((y (0 : Fin 3)).val / 8))) (ix3 ⟨(y (0 : Fin 3)).val % 8, Nat.mod_lt _ (by decide)⟩ (y 1) (y 2))

/-- Block `b` of the assembled output. -/
theorem assembled_read (b : Fin 16) : (outBlk b).view.read (Elt F) (assembled c X) = stacked (xin c X b) := by
  funext y
  obtain ⟨a, r, k, rfl⟩ : ∃ (a : Fin 8) (r : Fin 197) (k : Fin 768), y = ix3 a r k := ⟨_, _, _, eq_ix3 y⟩
  have e : (outBlk b).view.emb (ix3 a r k) = (ix3 (⟨8 * b.val + a.val, by have := a.isLt; have := b.isLt; omega⟩ : Fin 128) r k : S128x197x768.Idx) := by
    funext d
    match d with
    | ⟨0, _⟩ => exact Fin.ext (by show 8 * b.val + 1 * a.val = 8 * b.val + a.val; omega)
    | ⟨1, _⟩ => exact Fin.ext (by show 0 + 1 * r.val = r.val; omega)
    | ⟨2, _⟩ => exact Fin.ext (by show 0 + 1 * k.val = k.val; omega)
  show assembled c X ((outBlk b).view.emb (ix3 a r k)) = _
  rw [e]
  have hb : B ((8 * b.val + a.val) / 8) = b := Fin.ext (by
    have := a.isLt; have := b.isLt
    show (8 * b.val + a.val) / 8 % 16 = b.val
    omega)
  have ha : (⟨(8 * b.val + a.val) % 8, Nat.mod_lt _ (by decide)⟩ : Fin 8) = a := Fin.ext (by have := a.isLt; show (8 * b.val + a.val) % 8 = a.val; omega)
  show stacked (xin c X (B ((8 * b.val + a.val) / 8))) (ix3 (⟨(8 * b.val + a.val) % 8, Nat.mod_lt _ (by decide)⟩ : Fin 8) r k) = _
  rw [hb, ha]

/-- A written block is that block of the assembled output. -/
theorem out_done_assembled (b : Fin 16) : outDone c X b ⊢ outNew c (assembled c X) b := by
  iintro ⟨%g, %hg, H⟩
  have h : ∀ i ∈ (outBlk b).view.set, g i = assembled c X i := fun i hi => by
    obtain ⟨x, -, rfl⟩ := Finset.mem_map.1 hi
    exact congrFun (hg.trans (assembled_read c X b).symm) x
  iapply (show iprop(outBlkP c b g) ⊢ outNew c (assembled c X) b from by rw [show outBlkP c b g = outNew c (assembled c X) b from pointsTo_congr h])
  iexact H

/-- Every block written is the output assembled. -/
theorem out_done_whole : bigSep Finset.univ (outDone c X) ⊢ (((c : Thread nD τ).loc main_v1_0) ↦{fullShare} assembled c X : sProp 𝕄) := by
  rw [dst_blocks]
  exact BI.bigSep_mono fun b _ => out_done_assembled c X b

/-- The sums copied out, as one buffer. -/
theorem sums_out_whole : sumsOut c X ⊢ (((c : Thread nD τ).loc main_v1_1) ↦{fullShare} (allSums c X : Buf (Elt F) ((c : Thread nD τ).loc main_v1_1)) : sProp 𝕄) := by
  iintro ⟨%f, %hf, H⟩
  obtain rfl : f = allSums c X := hf
  iexact H

end Ends

end Cert.KernelIdeal.Hand

end

end
-- ==== Proof.CopyRegion.lean ====
/-
  The copying kernel as a pipeline of 16 points: what it holds between points, that its body takes that state from each
  point to the next, and its own semaphores.
-/
module

public import proofs.«01_k».proof.Proof.CopyEnds
public import proofs.«01_k».proof.Proof.Gen.KernelIdeal.Launch

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

section Region
variable (c : Dev nD) (X : Buf (Elt F) (srcM.view.loc (c : Thread nD τ))) (G : Buf (Elt F) (dstM.view.loc (c : Thread nD τ)))

/-- The rings and the sums before point `p`. -/
def core (p : ℕ) : sProp 𝕄 :=
  if p = 0 then iprop(RIn₀ c X ∗ ROut₀ c G ∗ sumsTo c X 0) else iprop(RIn c X p ∗ ROut c X G p ∗ sumsTo c X p)
/-- The sums array before point `p`: written at the last. -/
def sumArr (p : ℕ) : sProp 𝕄 := if p = 16 then sumsOut c X else iprop(∃ f, sumHP c f)
/-- The second kernel's scoped buffers, which this one does not touch. -/
abbrev idle : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f))
/-- Everything held before point `p`. -/
def State (p : ℕ) : sProp 𝕄 := iprop(core c X G p ∗ sumArr c X p ∗ sumCell c ∗ idle c)

theorem core_zero : core c X G 0 = iprop(RIn₀ c X ∗ ROut₀ c G ∗ sumsTo c X 0) := if_pos rfl
theorem core_pos (p : ℕ) (h : p ≠ 0) : core c X G p = iprop(RIn c X p ∗ ROut c X G p ∗ sumsTo c X p) := if_neg h
theorem sumArr_lt (p : ℕ) (h : p ≠ 16) : sumArr c X p = (iprop(∃ f, sumHP c f) : sProp 𝕄) := if_neg h
theorem sumArr_last : sumArr c X 16 = sumsOut c X := if_pos rfl

/-- The core may have any waits recorded. -/
abbrev owing : sProp 𝕄 := iprop(∃ W, owes (c : Thread nD τ) 0 W)

/-- The rings' part of a point before the last. -/
theorem core_step (t : Fin grid0.N) (h : t.val < 15) :
    iprop(core c X G t.val ∗ owing c) ⊢ wp frame (wpE (defs₀ (F := F)) 𝒱₀ (c : Thread nD τ) none) Set.univ (bodyC t) (fun _ => held c X G (t.val + 1)) := by
  by_cases h0 : t.val = 0
  · obtain rfl : t = t0 := Fin.ext h0
    refine BIBase.Entails.trans ?_ (run_first c X G)
    rw [show (t0 : Fin grid0.N).val = 0 from rfl, core_zero]
    iintro ⟨⟨H1, H2, H3⟩, H4⟩
    isplitl [H1]; · iexact H1
    isplitl [H2]; · iexact H2
    isplitl [H3]; · iexact H3
    iexact H4
  · have e : iprop(core c X G t.val ∗ owing c) ⊢ held c X G t.val := by
      rw [core_pos c X G t.val h0]
      iintro ⟨⟨H1, H2, H3⟩, H4⟩
      isplitl [H1]; · iexact H1
      isplitl [H2]; · iexact H2
      isplitl [H3]; · iexact H3
      iexact H4
    refine e.trans ?_
    by_cases h5 : t.val < 5
    · exact run_early c X G t (by omega) h5
    · by_cases h11 : t.val + 4 < 16
      · exact run_mid c X G t (by omega) h11
      · exact run_late c X G t (by omega) h

/-- The body takes the state before a point to the state before the next. -/
theorem step (t : Fin grid0.N) :
    iprop(State c X G t.val ∗ owing c) ⊢ wp frame (wpE (defs₀ (F := F)) 𝒱₀ (c : Thread nD τ) none) Set.univ (bodyC t) (fun _ => iprop(State c X G (t.val + 1) ∗ owing c)) := by
  have hN : t.val < 16 := N_0 ▸ t.isLt
  unfold State
  rw [core_pos c X G (t.val + 1) (by omega), sumArr_lt c X t.val (by omega)]
  by_cases h : t.val < 15
  · rw [sumArr_lt c X (t.val + 1) (by omega)]
    have e := core_step c X G t h
    refine BIBase.Entails.trans ?_ ((BIClass.sep_mono e (Entails.refl iprop((∃ f, sumHP c f) ∗ sumCell c ∗ idle c))).trans ((wp_frame_r _ _ _).trans (wp_mono _ _ _ fun _ => ?_)))
    · iintro ⟨⟨H1, H2⟩, H3⟩
      isplitl [H1 H3]; · isplitl [H1] <;> iassumption
      iexact H2
    · iintro ⟨⟨H1, H2, H3, H4⟩, H5⟩
      isplitr [H4]; swap; · iexact H4
      isplitl [H1 H2 H3]
      · isplitl [H1]; · iexact H1
        isplitl [H2]; · iexact H2
        iexact H3
      iexact H5
  · have h15 : t.val = 15 := by omega
    have e := run_last c X G t h15
    rw [show t.val + 1 = 16 by omega] at e ⊢
    rw [sumArr_last, core_pos c X G t.val (by omega)]
    refine BIBase.Entails.trans ?_ ((BIClass.sep_mono e (Entails.refl (idle c))).trans ((wp_frame_r _ _ _).trans (wp_mono _ _ _ fun _ => ?_)))
    · iintro ⟨⟨⟨H1, H2, H3⟩, H4, H5, H6⟩, H7⟩
      isplitr [H6]; swap; · iexact H6
      isplitl [H1 H2 H3 H7]
      · isplitl [H1]; · iexact H1
        isplitl [H2]; · iexact H2
        isplitl [H3]; · iexact H3
        iexact H7
      isplitl [H4]; · iexact H4
      iexact H5
    · iintro ⟨⟨⟨H1, H2, H3, H4⟩, H5, H6⟩, H7⟩
      isplitr [H4]; swap; · iexact H4
      isplitl [H1 H2 H3]
      · isplitl [H1]; · iexact H1
        isplitl [H2]; · iexact H2
        iexact H3
      isplitl [H5]; · iexact H5
      isplitl [H6]; · iexact H6
      iexact H7

end Region

/-! ## The kernel's own semaphores -/

/-- Five for the input slots, five for the output slots, one for the sums. -/
abbrev osem0 : Fin 5 ⊕ Fin 5 ⊕ Unit → SemLoc sig
  | .inl s => .dma (inSem s).sem
  | .inr (.inl s) => .dma (outSem s).sem
  | .inr (.inr _) => .dma (cc0_scratch5).sem
theorem ownSemFacts0 : Pipeline.OwnSemFacts cfg0.spec osem0 := by decide

theorem ownSems0_eq (c : Dev nD) : (Pipeline.ownSems0 (Ix := Unit) (Name := ℕ) (U := UU) (Lvl := ℕ) (Val := Elt F) (τ := τ) osem0 c : sProp 𝕄)
    = iprop(bigSep Finset.univ (inCell c) ∗ bigSep Finset.univ (outCell c) ∗ sumCell c) := by
  unfold Pipeline.ownSems0
  rw [bigSep_univ_sum, bigSep_univ_sum, show (Finset.univ : Finset Unit) = {()} from rfl, bigSep_singleton]
  rfl

/-! ## What the first point starts from, and what the last one leaves -/

section Ends
variable (c : Dev nD) (X : Buf (Elt F) (srcM.view.loc (c : Thread nD τ))) (G : Buf (Elt F) (dstM.view.loc (c : Thread nD τ)))

/-- The scoped buffers the kernel may use, at anything. -/
abbrev rest0 : sProp 𝕄 := Pipeline.scopedRest (Ix := Unit) (Name := ℕ) (U := UU) (Lvl := ℕ) (Val := Elt F) cfg0.spec c

theorem enter : iprop((((c : Thread nD τ).loc main_arg1) ↦{fullShare} X) ∗ (((c : Thread nD τ).loc main_v1_0) ↦{fullShare} G)
      ∗ (∃ f, sumHP c f) ∗ Pipeline.ownSems0 osem0 c ∗ rest0 c) ⊢ State c X G 0 := by
  unfold rest0 State
  rw [scopedRest0_eq, ownSems0_eq, core_zero, sumArr_lt c X 0 (by decide), src_blocks, dst_blocks]
  unfold RIn₀ ROut₀ Ring.At₀ Ring.AtB₀
  rw [in_free_sep, out_any_sep]
  iintro ⟨HX, HG, HS, ⟨HI, HO, HC⟩, HB0, HB1, ⟨%fs, HB2⟩, Hidle⟩
  ihave HI' := (in_slots_split c) $$ HB0
  ihave HO' := (out_slots_split c) $$ HB1
  isplitl [HX HG HI HO HI' HO' HB2]
  · isplitl [HX HI HI']
    · isplitl [HX]; · iexact HX
      isplitl [HI]; · iexact HI
      iexact HI'
    isplitl [HG HO HO']
    · isplitl [HG]; · iexact HG
      isplitl [HO]; · iexact HO
      iexact HO'
    iexists fs
    isplitr; · ipureintro; exact sums_zero c X fs
    iexact HB2
  isplitl [HS]; · iexact HS
  isplitl [HC]; · iexact HC
  iexact Hidle

theorem leave : State c X G 16 ⊢ iprop(((((c : Thread nD τ).loc main_arg1) ↦{fullShare} X) ∗ (((c : Thread nD τ).loc main_v1_0) ↦{fullShare} assembled c X)
      ∗ (((c : Thread nD τ).loc main_v1_1) ↦{fullShare} (allSums c X : Buf (Elt F) ((c : Thread nD τ).loc main_v1_1))))
      ∗ Pipeline.ownSems0 osem0 c ∗ rest0 c) := by
  have hO := out_free_any (F := F) c
  rw [out_any_sep] at hO
  unfold rest0 State
  rw [scopedRest0_eq, ownSems0_eq, core_pos c X G 16 (by decide), sumArr_last, src_blocks, in_end, out_end_eq, in_free_sep]
  iintro ⟨⟨⟨HX, HI, HI'⟩, ⟨HG, HO⟩, ⟨%fs, -, HB2⟩⟩, HS, HC, Hidle⟩
  ihave HO2 := hO $$ HO
  icases HO2 with ⟨HO, HO'⟩
  isplitl [HX HG HS]
  · isplitl [HX]; · iexact HX
    isplitl [HG]; · iapply (out_done_whole c X); iexact HG
    iapply (sums_out_whole c X); iexact HS
  isplitl [HI HO HC]
  · isplitl [HI]; · iexact HI
    isplitl [HO]; · iexact HO
    iexact HC
  isplitl [HI']; · iapply (in_slots_join c); iexact HI'
  isplitl [HO']; · iapply (out_slots_join c); iexact HO'
  isplitl [HB2]; · iexists fs; iexact HB2
  iexact Hidle

end Ends

/-! ## The pipeline's proof data -/

/-- What the core's buffers hold. -/
abbrev Vals : Type := (c : Dev nD) → (b : Ref sig .tc) → Buf (Elt F) ((c : Thread nD τ).loc b)

/-- The copying kernel's proof data from contents `V`: no window, the state above. -/
def dat0 (V : Vals (F := F)) (c : Dev nD) : Dat τ (Elt F) Unit ℕ UU ℕ cfg0 c where
  A w := w.elim0
  after w := w.elim0
  Φ t := State c (V c main_arg1) (V c main_v1_0) t.val
  q _ := fullShare
  owed _ := 0

/-- The body table's entry is the kernel. -/
theorem defs_tc0 : (defs₀ (F := F)) .tc cfg0.body = fun a => bodyC a.1 := rfl
theorem prog_eq0 (t : Fin cfg0.N) : (defs₀ (F := F)) .tc cfg0.body (cfg0.bodyArgs t (cfg0.slots t)) = bodyC t := (congrFun defs_tc0 _).trans rfl

theorem at_castSucc {α : Sort _} (S : ℕ → α) {N : ℕ} (t : Fin N) : S t.castSucc.val = S t.val := rfl
theorem at_succ {α : Sort _} (S : ℕ → α) {N : ℕ} (t : Fin N) : S t.succ.val = S (t.val + 1) := rfl

set_option backward.isDefEq.respectTransparency.types false in
theorem body_obligation0 (V : Vals (F := F)) (c : Dev nD) : BodyObligation (dat0 V c) (defs₀ (F := F)) 𝒱₀ () Set.univ := fun t => by
  rw [show (Finset.univ : Finset (Fin cfg0.W)) = ∅ from rfl, BI.bigSep_empty, BI.bigSep_empty]
  rw [show (dat0 V c).Φ t.castSucc = State c (V c main_arg1) (V c main_v1_0) t.val from at_castSucc (State c (V c main_arg1) (V c main_v1_0)) t,
    show (dat0 V c).Φ t.succ = State c (V c main_arg1) (V c main_v1_0) (t.val + 1) from at_succ (State c (V c main_arg1) (V c main_v1_0)) t]
  unfold Dat.owesAt Pipeline.owesWithin
  rw [show (dat0 V c).owed t.castSucc = 0 from rfl, show (dat0 V c).owed t.succ = 0 from rfl]
  rw [prog_eq0 t]
  refine BIBase.Entails.trans ?_ ((step c (V c main_arg1) (V c main_v1_0) t).trans (wp_mono _ _ _ fun _ => ?_))
  · iintro ⟨HΦ, ⟨%W, -, HW⟩, -⟩
    isplitl [HΦ]; · iexact HΦ
    iexists W; iexact HW
  · iintro ⟨HΦ, %W, HW⟩
    isplitl [HΦ]; · iexact HΦ
    isplitl [HW]
    · iexists W; isplitr; · ipureintro; exact fun _ _ => Or.inl trivial
      iexact HW
    iempintro

end Cert.KernelIdeal.Hand

end

end
-- ==== Proof.TokenBody.lean ====
/-
  The token kernel: one point, which computes every example's token from the sums and copies the tokens into row 0 of
  the assembled output.
-/
module

public import proofs.«01_k».proof.Proof.CopyRegion
public import proofs.«01_k».proof.Proof.Gen.KernelIdeal.Points
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The output, where the tokens go in. -/
abbrev resM : Memref sig .tc .hbm S128x197x768 .f32 := Memref.whole main_v3
/-- Row 0 of every example of the output. -/
def tokM : Memref sig .tc .hbm S128x768 .f32 :=
  (resM.slice (Rect.unit (s := S128x197x768) ![0, 0, 0] S128x1x768.size inb_S128x197x768_S128x1x768_0_0_0) (fun _ => rfl)).squeeze S128x768 squeezes_S128x1x768_S128x768
/-- The tokens before they are copied out. -/
abbrev tokBuf : Memref sig .tc .vmem S128x768 .f32 := Memref.whole cc1_scratch0

section Body
variable (c : Dev nD)

/-- The token kernel's body. -/
abbrev bodyT := cc1__token_body (F := F) (stage1_0 0) (hstage1_0 0) (stage1_1 0) (hstage1_1 0) (stage1_2 0) (hstage1_2 0) (stage1_3 0) (hstage1_3 0)
  resM (Memref.isWhole_whole _) resM (Memref.isWhole_whole _) tokBuf (Memref.isWhole_whole _) cc1_scratch1

/-- The tokens' copy's semaphore at zero. -/
abbrev tokCell : sProp 𝕄 := semVal ((c : Thread nD τ), SemLoc.dma (cc1_scratch1).sem) 0

/-- The tokens written over row 0. -/
def withTokens (A : Buf (Elt F) (tokM.view.loc (c : Thread nD τ))) (w : FVec F S128x768 .f32) : Buf (Elt F) (tokM.view.loc (c : Thread nD τ)) :=
  tokM.view.writes (Elt F) A [⟨Rect.whole S128x768, w⟩]

/-- Nothing off row 0 changes. -/
theorem withTokens_off (A : Buf (Elt F) (tokM.view.loc (c : Thread nD τ))) (w : FVec F S128x768 .f32) (i) (hi : i ∉ tokM.view.set) : withTokens c A w i = A i := by
  unfold withTokens
  rw [View.writes_singleton]
  refine View.write_of_not_mem _ _ _ fun h => hi ?_
  rw [View.setOn_univ] at h
  have h' := (View.set_slice tokM.view (Rect.whole S128x768)) ▸ h
  obtain ⟨x, -, rfl⟩ := Finset.mem_map.1 h'
  exact View.emb_mem_set _ x

/-- Row 0 apart from the rest of the output. -/
theorem res_split (A : Buf (Elt F) (tokM.view.loc (c : Thread nD τ))) :
    (((c : Thread nD τ).loc main_v3) ↦{fullShare} A : sProp 𝕄)
      ⊢ iprop((tokM.view.loc (c : Thread nD τ) ↦[tokM.view.set]{fullShare} A) ∗ (tokM.view.loc (c : Thread nD τ) ↦[Finset.univ \ tokM.view.set]{fullShare} A)) :=
  (pointsTo_split_subset (Finset.subset_univ tokM.view.set)).1

/-- The output with row 0 put back. -/
theorem res_join (A : Buf (Elt F) (tokM.view.loc (c : Thread nD τ))) (w : FVec F S128x768 .f32) :
    iprop((tokM.view.loc (c : Thread nD τ) ↦[tokM.view.set]{fullShare} withTokens c A w) ∗ (tokM.view.loc (c : Thread nD τ) ↦[Finset.univ \ tokM.view.set]{fullShare} A))
      ⊢ (((c : Thread nD τ).loc main_v3) ↦{fullShare} withTokens c A w : sProp 𝕄) := by
  have e : (tokM.view.loc (c : Thread nD τ) ↦[Finset.univ \ tokM.view.set]{fullShare} A : sProp 𝕄)
      = tokM.view.loc (c : Thread nD τ) ↦[Finset.univ \ tokM.view.set]{fullShare} withTokens c A w :=
    pointsTo_congr fun i hi => (withTokens_off c A w i (Finset.mem_sdiff.1 hi).2).symm
  rw [e]
  exact (pointsTo_split_subset (Finset.subset_univ tokM.view.set)).2

/-- The run: the staged blocks are read, row 0 of the output takes the tokens. -/
theorem run_tokens (f0 : Buf (Elt F) ((stage1_0 0).view.loc (c : Thread nD τ))) (f1 : Buf (Elt F) ((stage1_1 0).view.loc (c : Thread nD τ)))
    (f2 : Buf (Elt F) ((stage1_2 0).view.loc (c : Thread nD τ))) (f3 : Buf (Elt F) ((stage1_3 0).view.loc (c : Thread nD τ)))
    (fs : Buf (Elt F) (tokBuf.view.loc (c : Thread nD τ))) (A : Buf (Elt F) (tokM.view.loc (c : Thread nD τ))) (Q : PUnit → sProp 𝕄) :
    iprop(((stage1_0 0).view.loc (c : Thread nD τ) ↦{fullShare} f0) ∗ ((stage1_1 0).view.loc (c : Thread nD τ) ↦{fullShare} f1)
      ∗ ((stage1_2 0).view.loc (c : Thread nD τ) ↦{fullShare} f2) ∗ ((stage1_3 0).view.loc (c : Thread nD τ) ↦{fullShare} f3)
      ∗ (tokBuf.view.loc (c : Thread nD τ) ↦{fullShare} fs) ∗ (tokM.view.loc (c : Thread nD τ) ↦[tokM.view.set]{fullShare} A) ∗ tokCell c ∗ owing c
      ∗ (iprop(((stage1_0 0).view.loc (c : Thread nD τ) ↦{fullShare} f0) ∗ ((stage1_1 0).view.loc (c : Thread nD τ) ↦{fullShare} f1)
      ∗ ((stage1_2 0).view.loc (c : Thread nD τ) ↦{fullShare} f2) ∗ ((stage1_3 0).view.loc (c : Thread nD τ) ↦{fullShare} f3)
      ∗ (∃ fs, tokBuf.view.loc (c : Thread nD τ) ↦{fullShare} fs) ∗ (tokM.view.loc (c : Thread nD τ) ↦[tokM.view.set]{fullShare} withTokens c A (k1_pay1 f1 f0 f2 f3)) ∗ tokCell c ∗ owing c) -∗ Q ⟨⟩))
    ⊢ wp frame (wpE (defs₀ (F := F)) 𝒱₀ (c : Thread nD τ) none) Set.univ bodyT Q := by
  iintro ⟨H0, H1, H2, H3, HS, HA, HC, ⟨%W, HW⟩, Hk⟩
  unfold bodyT
  sl_exec
  sl_step
  have e : run_tokens.sl.dma6 c f0 f1 f2 f3 fs = k1_pay1 f1 f0 f2 f3 := by
    delta run_tokens.sl.dma6 run_tokens.sl.HS_1
    refine (View.read_writes_full tokBuf.view fs _ _ []).trans ?_
    have e0 := View.readAt_full (Val := Elt F) (stage1_0 0).view f0 inb_S128x768_S128x768_0_0
    have e1 := View.readAt_full (Val := Elt F) (stage1_1 0).view f1 inb_S1x128_S1x128_0_0
    have e2 := View.readAt_full (Val := Elt F) (stage1_2 0).view f2 inb_S768x768_S768x768_0_0
    have e3 := View.readAt_full (Val := Elt F) (stage1_3 0).view f3 inb_S1x768_S1x768_0_0
    exact congr (congr (congr (congrArg k1_pay1 e1) e0) e2) e3
  rw [e]
  iapply Hk
  isplitl [H0]; · iexact H0
  isplitl [H1]; · iexact H1
  isplitl [H2]; · iexact H2
  isplitl [H3]; · iexact H3
  isplitl [HS]; · iexists _; iexact HS
  isplitl [HA]; · iexact HA
  isplitl [HC]; · iexact HC
  iexists _; iexact HW

end Body

/-! ## The pipeline's proof data -/

/-- The kernel's one semaphore of its own. -/
abbrev osem1 : Unit → SemLoc sig := fun _ => .dma (cc1_scratch1).sem
theorem ownSemFacts1 : Pipeline.OwnSemFacts spec1 osem1 := by decide
theorem ownSems1_eq (c : Dev nD) : (Pipeline.ownSems0 (Ix := Unit) (Name := ℕ) (U := UU) (Lvl := ℕ) (Val := Elt F) (τ := τ) osem1 c : sProp 𝕄) = tokCell c := by
  unfold Pipeline.ownSems0
  rw [show (Finset.univ : Finset Unit) = {()} from rfl, bigSep_singleton]

section Region
variable (V : Vals (F := F)) (c : Dev nD)

/-- Window `w`'s block, read off its array. -/
def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tokens. -/
def tokens : FVec F S128x768 .f32 := k1_pay1 (iblk V c 1 t1_0) (iblk V c 0 t1_0) (iblk V c 2 t1_0) (iblk V c 3 t1_0)

/-- The output's contents before point `p`. -/
def resAt (p : ℕ) : Buf (Elt F) ((c : Thread nD τ).loc main_v3) := if p = 0 then V c main_v3 else withTokens c (V c main_v3) (tokens V c)

theorem resAt_zero : resAt V c 0 = V c main_v3 := if_pos rfl
theorem resAt_one : resAt V c 1 = withTokens c (V c main_v3) (tokens V c) := if_neg one_ne_zero

/-- Everything held before point `p`. -/
def State1 (p : ℕ) : sProp 𝕄 :=
  iprop((((c : Thread nD τ).loc main_v3) ↦{fullShare} resAt V c p) ∗ tokCell c
    ∗ Pipeline.scopedRest (Ix := Unit) (Name := ℕ) (U := UU) (Lvl := ℕ) (Val := Elt F) spec1 c)

/-- The token kernel's proof data from contents `V`. -/
def dat1 : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
  Φ t := State1 V c t.val
  q _ := fullShare
  owed _ := 0

theorem before0 (d) : (dat1 V c).before 0 t1_0 d = iblk V c 0 t1_0 := by
  unfold Dat.before; rw [if_pos (fetch1_0 t1_0)]; unfold Dat.fetched Dat.blockOf iblk; dsimp only [dat1]; rfl
theorem before1 (d) : (dat1 V c).before 1 t1_0 d = iblk V c 1 t1_0 := by
  unfold Dat.before; rw [if_pos (fetch1_1 t1_0)]; unfold Dat.fetched Dat.blockOf iblk; dsimp only [dat1]; rfl
theorem before2 (d) : (dat1 V c).before 2 t1_0 d = iblk V c 2 t1_0 := by
  unfold Dat.before; rw [if_pos (fetch1_2 t1_0)]; unfold Dat.fetched Dat.blockOf iblk; dsimp only [dat1]; rfl
theorem before3 (d) : (dat1 V c).before 3 t1_0 d = iblk V c 3 t1_0 := by
  unfold Dat.before; rw [if_pos (fetch1_3 t1_0)]; unfold Dat.fetched Dat.blockOf iblk; dsimp only [dat1]; rfl

/-- The body table's entry is the kernel. -/
theorem defs_tc1 : (defs₀ (F := F)) .tc cfg1.body
    = fun a => cc1__token_body (win1_0.stage (a.2 0)) (hstage1_0 0) (win1_1.stage (a.2 1)) (hstage1_1 0) (win1_2.stage (a.2 2)) (hstage1_2 0) (win1_3.stage (a.2 3)) (hstage1_3 0)
        resM (Memref.isWhole_whole _) resM (Memref.isWhole_whole _) tokBuf (Memref.isWhole_whole _) cc1_scratch1 := rfl
theorem prog_eq1 : (defs₀ (F := F)) .tc cfg1.body (cfg1.bodyArgs t1_0 (cfg1.slots t1_0)) = bodyT := (congrFun defs_tc1 _).trans rfl

/-- What the staging buffers hold. -/
def Staged : sProp 𝕄 :=
  iprop(((stage1_0 0).view.loc (c : Thread nD τ) ↦{fullShare} iblk V c 0 t1_0) ∗ ((stage1_1 0).view.loc (c : Thread nD τ) ↦{fullShare} iblk V c 1 t1_0)
    ∗ ((stage1_2 0).view.loc (c : Thread nD τ) ↦{fullShare} iblk V c 2 t1_0) ∗ ((stage1_3 0).view.loc (c : Thread nD τ) ↦{fullShare} iblk V c 3 t1_0))

/-- The body at the library's state. -/
theorem run_state : iprop(State1 V c 0 ∗ owing c ∗ Staged V c)
    ⊢ wp frame (wpE (defs₀ (F := F)) 𝒱₀ (c : Thread nD τ) none) Set.univ bodyT fun _ => iprop(State1 V c 1 ∗ owing c ∗ Staged V c) := by
  unfold State1 Staged
  rw [scopedRest1_eq, resAt_zero, resAt_one]
  iintro ⟨⟨HR, HC, HB0, HB1, HB2, %fs, HS⟩, HW, H0, H1, H2, H3⟩
  ihave HR' := (res_split c (V c main_v3)) $$ HR
  icases HR' with ⟨HR, HR'⟩
  iapply (run_tokens c (iblk V c 0 t1_0) (iblk V c 1 t1_0) (iblk V c 2 t1_0) (iblk V c 3 t1_0) fs (V c main_v3) _)
  isplitl [H0]; · iexact H0
  isplitl [H1]; · iexact H1
  isplitl [H2]; · iexact H2
  isplitl [H3]; · iexact H3
  isplitl [HS]; · iexact HS
  isplitl [HR]; · iexact HR
  isplitl [HC]; · iexact HC
  isplitl [HW]; · iexact HW
  iintro ⟨H0, H1, H2, H3, HS, HR, HC, HW⟩
  isplitl [HR HR' HC HB0 HB1 HB2 HS]
  · isplitl [HR HR']
    · iapply (res_join c (V c main_v3) (tokens V c)); isplitl [HR]; · iexact HR
      iexact HR'
    isplitl [HC]; · iexact HC
    isplitl [HB0]; · iexact HB0
    isplitl [HB1]; · iexact HB1
    isplitl [HB2]; · iexact HB2
    iexact HS
  isplitl [HW]; · iexact HW
  isplitl [H0]; · iexact H0
  isplitl [H1]; · iexact H1
  isplitl [H2]; · iexact H2
  iexact H3

/-- A buffer held at one of several equal contents. -/
theorem owns_known {sp : Space} {S : Shape} {e : EltTy} {D : Type} {M : Memref sig .tc sp S e} {X : D → S.Idx → Elt F e} {Y : S.Idx → Elt F e}
    (h : ∀ d, X d = Y) : iprop(∃ d, owns (c : Thread nD τ) M fullShare (X d)) ⊢ (owns (c : Thread nD τ) M fullShare Y : sProp 𝕄) :=
  exists_elim fun d => by rw [h d]

/-- A whole buffer's ownership, both ways. -/
theorem owns_pt (b : Ref sig .tc) (X : Buf (Elt F) ((c : Thread nD τ).loc b)) :
    (owns (c : Thread nD τ) (Memref.whole b) fullShare X : sProp 𝕄) ⊣⊢ ((c : Thread nD τ).loc b ↦{fullShare} X) := by
  rw [owns_whole_eq]
  constructor
  · iintro ⟨%f, %h, H⟩; subst h; iexact H
  · iintro H; iexists X; isplitr; · ipureintro; rfl
    iexact H

set_option backward.isDefEq.respectTransparency.types false in
/-- The library's body obligation. -/
theorem body_obligation1 : BodyObligation (dat1 V c) (defs₀ (F := F)) 𝒱₀ () Set.univ := fun t => by
  obtain rfl := fin_N1 t
  rw [bigSep_W1, bigSep_W1]
  rw [show (dat1 V c).Φ t1_0.castSucc = State1 V c 0 from rfl, show (dat1 V c).Φ t1_0.succ = State1 V c 1 from rfl]
  unfold Dat.owesAt Pipeline.owesWithin
  rw [show (dat1 V c).owed t1_0.castSucc = 0 from rfl, show (dat1 V c).owed t1_0.succ = 0 from rfl]
  rw [prog_eq1]
  refine BIBase.Entails.trans (BIClass.sep_mono (BI.Entails.refl _) (BIClass.sep_mono (show _ ⊢ owing c from ?_)
    (show _ ⊢ Staged V c from BIClass.sep_mono ((owns_known c (before0 V c)).trans (owns_pt c cc1_stg0_0 _).1) (BIClass.sep_mono ((owns_known c (before1 V c)).trans (owns_pt c cc1_stg1_0 _).1)
      (BIClass.sep_mono ((owns_known c (before2 V c)).trans (owns_pt c cc1_stg2_0 _).1) ((owns_known c (before3 V c)).trans (owns_pt c cc1_stg3_0 _).1)))))) ?_
  · iintro ⟨%W, -, HW⟩; iexists W; iexact HW
  refine (run_state V c).trans (wp_mono _ _ _ fun _ => BIClass.sep_mono (BI.Entails.refl _) (BIClass.sep_mono (show owing c ⊢ _ from ?_)
    (BIClass.sep_mono (owns_pt c cc1_stg0_0 _).2 (BIClass.sep_mono (owns_pt c cc1_stg1_0 _).2 (BIClass.sep_mono (owns_pt c cc1_stg2_0 _).2 (owns_pt c cc1_stg3_0 _).2)))))
  iintro ⟨%W, HW⟩
  iexists W; isplitr; · ipureintro; exact fun _ _ => Or.inl trivial
  iexact HW

end Region

end Cert.KernelIdeal.Hand

end

end
-- ==== Proof.BothRegions.lean ====
/-
  The two kernels as regions of the program: what each is handed, what each hands back.
-/
module

public import proofs.«01_k».proof.Proof.TokenBody
public import proofs.«01_k».proof.Proof.Gen.KernelIdeal.Regions
public import Idealize.ShloMosaic.Lib.Pipeline.RegionsLoop

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

/-! ## The two regions -/

section Regions
variable (Va Vb Vp : Vals (F := F))

/-- Both pipelines' proof data, each from the contents its kernel starts at. -/
def pdats : (p : Fin 2) → (c : Dev nD) → Dat τ (Elt F) Unit ℕ UU ℕ (cfgs p) c
  | ⟨0, _⟩ => fun c => dat0 Va c
  | ⟨1, _⟩ => fun c => dat1 Vb c

/-- The buffers the copying kernel does not touch. -/
def bystanders (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg2) ↦{fullShare} V main_arg2)
    ∗ (((c : Thread nD τ).loc main_arg3) ↦{fullShare} V main_arg3) ∗ (((c : Thread nD τ).loc main_arg4) ↦{fullShare} V main_arg4)
    ∗ (((c : Thread nD τ).loc main_v0) ↦{fullShare} V main_v0) ∗ (((c : Thread nD τ).loc main_v2) ↦{fullShare} V main_v2)
    ∗ (((c : Thread nD τ).loc main_v3) ↦{fullShare} V main_v3))

/-- The buffers outside the kernel's scope, taken apart. -/
theorem rest_open (c : Dev nD) (V : (b : Ref sig .tc) → Buf (Elt F) ((c : Thread nD τ).loc b)) :
    (Pipeline.unscopedRest (Ix := Unit) (Name := ℕ) (U := UU) (Lvl := ℕ) (cfg0.spec) c V : sProp 𝕄)
      ⊢ iprop(((((c : Thread nD τ).loc main_arg1) ↦{fullShare} V main_arg1) ∗ (((c : Thread nD τ).loc main_v1_0) ↦{fullShare} V main_v1_0)
        ∗ (((c : Thread nD τ).loc main_v1_1) ↦{fullShare} V main_v1_1)) ∗ bystanders c V) := by
  rw [unscopedRest0_eq]; unfold bystanders
  iintro ⟨H0, H1, H2, H3, H4, H5, H6, H7, H8, H9⟩
  isplitl [H1 H6 H7]
  · isplitl [H1]; · iexact H1
    isplitl [H6]; · iexact H6
    iexact H7
  isplitl [H0]; · iexact H0
  isplitl [H2]; · iexact H2
  isplitl [H3]; · iexact H3
  isplitl [H4]; · iexact H4
  isplitl [H5]; · iexact H5
  isplitl [H8]; · iexact H8
  iexact H9

/-- And put together. -/
theorem rest_close (c : Dev nD) (V : (b : Ref sig .tc) → Buf (Elt F) ((c : Thread nD τ).loc b)) :
    iprop(((((c : Thread nD τ).loc main_arg1) ↦{fullShare} V main_arg1) ∗ (((c : Thread nD τ).loc main_v1_0) ↦{fullShare} V main_v1_0)
        ∗ (((c : Thread nD τ).loc main_v1_1) ↦{fullShare} V main_v1_1)) ∗ bystanders c V)
      ⊢ (Pipeline.unscopedRest (Ix := Unit) (Name := ℕ) (U := UU) (Lvl := ℕ) (cfg0.spec) c V : sProp 𝕄) := by
  rw [unscopedRest0_eq]; unfold bystanders
  iintro ⟨⟨H1, H6, H7⟩, H0, H2, H3, H4, H5, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- Buffers the copying kernel leaves alone hold the same contents before and after. -/
theorem bystanders_eq (c : Dev nD) (V V' : (b : Ref sig .tc) → Buf (Elt F) ((c : Thread nD τ).loc b))
    (h : ∀ b : Ref sig .tc, b ∉ ([main_v1_0, main_v1_1] : List (Ref sig .tc)) → V' b = V b) : bystanders (F := F) c V = bystanders c V' := by
  unfold bystanders
  rw [h main_arg0 (by decide), h main_arg2 (by decide), h main_arg3 (by decide), h main_arg4 (by decide), h main_v0 (by decide), h main_v2 (by decide), h main_v3 (by decide)]

set_option backward.isDefEq.respectTransparency.types false in
/-- The copying kernel's region. -/
def reg0 (hv0 : ∀ c, Vp c main_v1_0 = assembled c (Va c main_arg1)) (hv1 : ∀ c, Vp c main_v1_1 = allSums c (Va c main_arg1))
    (hne : ∀ c (b : Ref sig .tc), b ∉ ([main_v1_0, main_v1_1] : List (Ref sig .tc)) → Vp c b = Va c b) :
    RegionSeg (pcfgs (F := F)) adm (pdats Va Vb) () defs₀ 𝒱₀ L lv 0 where
  win := launch0.win.to₀
  block_pos := launch0.block_pos
  stage_whole := launch0.stage_whole
  K := Fin 5 ⊕ Fin 5 ⊕ Unit
  osem := osem0
  ho := ownSemFacts0
  hbody c := (body_obligation0 Va c).loose
  hwaits := Pipeline.hwaits_of_owed_zero _ _ _ _ L lv 0 fun _ _ => rfl
  pre c := iprop(unscopedBufs c (Va c) ∗ owing c)
  post c := iprop(unscopedBufs c (Vp c) ∗ owing c)
  X c := iprop((((c : Thread nD τ).loc main_arg1) ↦{fullShare} Va c main_arg1) ∗ (((c : Thread nD τ).loc main_v1_0) ↦{fullShare} Va c main_v1_0)
      ∗ (∃ f, sumHP c f) ∗ Pipeline.ownSems0 osem0 c)
  Y c := iprop((((c : Thread nD τ).loc main_arg1) ↦{fullShare} Va c main_arg1) ∗ (((c : Thread nD τ).loc main_v1_0) ↦{fullShare} assembled c (Va c main_arg1))
      ∗ (((c : Thread nD τ).loc main_v1_1) ↦{fullShare} (allSums c (Va c main_arg1) : Buf (Elt F) ((c : Thread nD τ).loc main_v1_1))))
  Z c := bystanders c (Va c)
  hentry c := by
    have hsplit := Pipeline.arrays_of_unscopedBufs (p := 0) (pcfgs (F := F)) adm (pdats Va Vb) launch0.win launch0.arr_whole c
      ((pdats Va Vb 0 c).share_full fun _ => rfl) (Va c) fun w => w.elim0
    iintro ⟨⟨Hub, HO⟩, HS, -⟩
    ihave H := hsplit $$ Hub
    icases H with ⟨Ha, Hrest⟩
    ihave H' := (rest_open c (Va c)) $$ Hrest
    icases H' with ⟨⟨H1, H2, H3⟩, HZ⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, HO⟩; iexists W; isplitr; · ipureintro; exact fun _ _ => Or.inl trivial
      iexact HO
    isplitl [H1 H2 H3 HS]
    · isplitl [H1]; · iexact H1
      isplitl [H2]; · iexact H2
      isplitl [H3]; · iexists (Va c main_v1_1); iexact H3
      iexact HS
    iexact HZ
  hin c := by
    refine BIBase.Entails.trans ?_ (enter c (Va c main_arg1) (Va c main_v1_0))
    unfold rest0
    iintro ⟨⟨H1, H2, H3, HS⟩, -, Hr⟩
    isplitl [H1]; · iexact H1
    isplitl [H2]; · iexact H2
    isplitl [H3]; · iexact H3
    isplitl [HS]; · iexact HS
    iexact Hr
  hout c := leave c (Va c main_arg1) (Va c main_v1_0)
  hexit c := by
    have hjoin := Pipeline.unscopedBufs_of_arrays (p := 0) (pcfgs (F := F)) adm (Ix := Unit) (Name := ℕ) (U := UU) (Lvl := ℕ) launch0.win launch0.arr_whole c
      (pdats Va Vb) ((pdats Va Vb 0 c).share_full fun _ => rfl) (Vp c) (Vp c) ((pdats Va Vb 0 c).arrAt · cfg0.N)
      (fun w => w.elim0) (fun b hb => rfl)
    have hclose := rest_close c (Vp c)
    rw [hv0 c, hv1 c, hne c main_arg1 (by decide), ← bystanders_eq c (Va c) (Vp c) (hne c)] at hclose
    iintro ⟨Ha, HO, HY, HZ⟩
    imodintro
    isplitl [Ha HY HZ]
    · iapply hjoin; isplitl [Ha]; · iexact Ha
      iapply hclose; isplitl [HY]; · iexact HY
      iexact HZ
    unfold owing Pipeline.Dat.owesAt Pipeline.owesWithin
    icases HO with ⟨%W, -, HO⟩; iexists W; iexact HO

/-- The buffers the token kernel does not read. -/
def bystanders1 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg1) ↦{fullShare} V main_arg1)
    ∗ (((c : Thread nD τ).loc main_arg2) ↦{fullShare} V main_arg2) ∗ (((c : Thread nD τ).loc main_arg4) ↦{fullShare} V main_arg4)
    ∗ (((c : Thread nD τ).loc main_v1_0) ↦{fullShare} V main_v1_0))

/-- The buffers outside the token kernel's windows, taken apart. -/
theorem rest1_open (c : Dev nD) (V : (b : Ref sig .tc) → Buf (Elt F) ((c : Thread nD τ).loc b)) :
    (Pipeline.unscopedRest (Ix := Unit) (Name := ℕ) (U := UU) (Lvl := ℕ) spec1 c V : sProp 𝕄)
      ⊢ iprop((((c : Thread nD τ).loc main_v3) ↦{fullShare} V main_v3) ∗ bystanders1 c V) := by
  rw [unscopedRest1_eq]; unfold bystanders1
  iintro ⟨H0, H1, H2, H3, H4, H5⟩
  isplitl [H5]; · iexact H5
  isplitl [H0]; · iexact H0
  isplitl [H1]; · iexact H1
  isplitl [H2]; · iexact H2
  isplitl [H3]; · iexact H3
  iexact H4

/-- And put together. -/
theorem rest1_close (c : Dev nD) (V : (b : Ref sig .tc) → Buf (Elt F) ((c : Thread nD τ).loc b)) :
    iprop((((c : Thread nD τ).loc main_v3) ↦{fullShare} V main_v3) ∗ bystanders1 c V)
      ⊢ (Pipeline.unscopedRest (Ix := Unit) (Name := ℕ) (U := UU) (Lvl := ℕ) spec1 c V : sProp 𝕄) := by
  rw [unscopedRest1_eq]; unfold bystanders1
  iintro ⟨H5, H0, H1, H2, H3, H4⟩
  isplitl [H0]; · iexact H0
  isplitl [H1]; · iexact H1
  isplitl [H2]; · iexact H2
  isplitl [H3]; · iexact H3
  isplitl [H4]; · iexact H4
  iexact H5

/-- Buffers other than the output hold the same contents before and after. -/
theorem bystanders1_eq (c : Dev nD) (V V' : (b : Ref sig .tc) → Buf (Elt F) ((c : Thread nD τ).loc b))
    (h : ∀ b : Ref sig .tc, b ∉ ([main_v3] : List (Ref sig .tc)) → V' b = V b) : bystanders1 (F := F) c V = bystanders1 c V' := by
  unfold bystanders1
  rw [h main_arg0 (by decide), h main_arg1 (by decide), h main_arg2 (by decide), h main_arg4 (by decide), h main_v1_0 (by decide)]

set_option backward.isDefEq.respectTransparency.types false in
/-- The token kernel's region. -/
def reg1 (hv : ∀ c, Vp c main_v3 = withTokens c (Vb c main_v3) (tokens Vb c))
    (hne : ∀ c (b : Ref sig .tc), b ∉ ([main_v3] : List (Ref sig .tc)) → Vp c b = Vb c b) :
    RegionSeg (pcfgs (F := F)) adm (pdats Va Vb) () defs₀ 𝒱₀ L lv 1 where
  win := launch1.win.to₀
  block_pos := launch1.block_pos
  stage_whole := launch1.stage_whole
  K := Unit
  osem := osem1
  ho := ownSemFacts1
  hbody c := (body_obligation1 Vb c).loose
  hwaits := Pipeline.hwaits_of_owed_zero _ _ _ _ L lv 1 fun _ _ => rfl
  pre c := iprop(unscopedBufs c (Vb c) ∗ owing c)
  post c := iprop(unscopedBufs c (Vp c) ∗ owing c)
  X c := iprop((((c : Thread nD τ).loc main_v3) ↦{fullShare} Vb c main_v3) ∗ Pipeline.ownSems0 osem1 c)
  Y c := (((c : Thread nD τ).loc main_v3) ↦{fullShare} withTokens c (Vb c main_v3) (tokens Vb c))
  Z c := bystanders1 c (Vb c)
  hentry c := by
    have hsplit := Pipeline.arrays_of_unscopedBufs (p := 1) (pcfgs (F := F)) adm (pdats Va Vb) launch1.win launch1.arr_whole c
      ((pdats Va Vb 1 c).share_full fun _ => rfl) (Vb c) fun w => rfl
    iintro ⟨⟨Hub, HO⟩, HS, -⟩
    ihave H := hsplit $$ Hub
    icases H with ⟨Ha, Hrest⟩
    ihave H' := (rest1_open c (Vb c)) $$ Hrest
    icases H' with ⟨H1, HZ⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, HO⟩; iexists W; isplitr; · ipureintro; exact fun _ _ => Or.inl trivial
      iexact HO
    isplitl [H1 HS]
    · isplitl [H1]; · iexact H1
      iexact HS
    iexact HZ
  hin c := by
    refine BIBase.Entails.trans ?_ (show State1 Vb c 0 ⊢ (pdats Va Vb 1 c).Φ 0 from BI.Entails.refl _)
    unfold State1
    rw [resAt_zero, ownSems1_eq]
    iintro ⟨⟨H1, HS⟩, -, Hr⟩
    isplitl [H1]; · iexact H1
    isplitl [HS]; · iexact HS
    iexact Hr
  hout c := by
    refine BIBase.Entails.trans (show (pdats Va Vb 1 c).Φ (Fin.last _) ⊢ State1 Vb c 1 from BI.Entails.refl _) ?_
    unfold State1
    rw [resAt_one, ownSems1_eq]
    exact BI.Entails.refl _
  hexit c := by
    have hjoin := Pipeline.unscopedBufs_of_arrays (p := 1) (pcfgs (F := F)) adm (Ix := Unit) (Name := ℕ) (U := UU) (Lvl := ℕ) launch1.win launch1.arr_whole c
      (pdats Va Vb) ((pdats Va Vb 1 c).share_full fun _ => rfl) (Vp c) (Vp c) ((pdats Va Vb 1 c).arrAt · cfg1.N)
      (fun w => by
        fin_cases w
        · exact ((pdats Va Vb 1 c).arrAt_in 0 rfl _).trans (hne c main_v1_1 (by decide)).symm
        · exact ((pdats Va Vb 1 c).arrAt_in 1 rfl _).trans (hne c main_v0 (by decide)).symm
        · exact ((pdats Va Vb 1 c).arrAt_in 2 rfl _).trans (hne c main_arg3 (by decide)).symm
        · exact ((pdats Va Vb 1 c).arrAt_in 3 rfl _).trans (hne c main_v2 (by decide)).symm)
      (fun b hb => rfl)
    have hclose := rest1_close c (Vp c)
    rw [hv c, ← bystanders1_eq c (Vb c) (Vp c) (hne c)] at hclose
    iintro ⟨Ha, HO, HY, HZ⟩
    imodintro
    isplitl [Ha HY HZ]
    · iapply hjoin; isplitl [Ha]; · iexact Ha
      iapply hclose; isplitl [HY]; · iexact HY
      iexact HZ
    unfold owing Pipeline.Dat.owesAt Pipeline.owesWithin
    icases HO with ⟨%W, -, HO⟩; iexists W; iexact HO

end Regions

end Cert.KernelIdeal.Hand

end

end
-- ==== Proof.WholeRun.lean ====
/-
  The whole program: the two regions and the host's operations around them, launched.
-/
module

public import proofs.«01_k».proof.Proof.BothRegions
public import proofs.«01_k».proof.Proof.Gen.KernelIdeal.Regions

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ UU ℕ

section Run
variable (m : (ℓ : Loc nD τ sig) → Buf (Elt F) ℓ) (ρ : Dev nD → PrngReg)

/-- A valuation as a core's contents. -/
abbrev vals (W : Dev nD → Valuation τ sig (Elt F)) : Vals (F := F) := fun c b => W c b

/-- What the copying kernel leaves. -/
def outs0 : Outs (F := F) := fun _ r c =>
  Function.update (Function.update (V1 m c) main_v1_0 (assembled c (V1 m c main_arg1))) main_v1_1 (allSums c (V1 m c main_arg1)) r

/-- The output after both kernels. -/
def result (c : Dev nD) : Buf (Elt F) ((c : Thread nD τ).loc main_v3) :=
  withTokens c (V3 m (outs0 m) c main_v3) (tokens (vals (V3 m (outs0 m))) c)

/-- What both kernels leave. -/
def outs : Outs (F := F) := fun j r c => if j = 2 then outs0 m j r c else Function.update (V3 m (outs0 m) c) main_v3 (result m c) r

theorem V2_outs (c : Dev nD) : V2 m (outs m) c = V2 m (outs0 m) c := rfl
theorem V3_outs (c : Dev nD) : V3 m (outs m) c = V3 m (outs0 m) c := congrArg (StableHlo.after hostOps1) (V2_outs m c)
theorem V2_patches (c : Dev nD) : V2 m (outs m) c main_v1_0 = assembled c (V1 m c main_arg1) := by
  unfold V2
  rw [Function.update_of_ne (StableHlo.devRef_ne_of_ne (by decide) : (Proc.devRef .tc main_v1_0 : DevRef τ sig) ≠ Proc.devRef .tc main_v1_1), Function.update_self]
  show outs0 m 2 main_v1_0 c = _
  unfold outs0
  rw [Function.update_of_ne (StableHlo.devRef_ne_of_ne (by decide) : (Proc.devRef .tc main_v1_0 : DevRef τ sig) ≠ Proc.devRef .tc main_v1_1), Function.update_self]
theorem V2_sums (c : Dev nD) : V2 m (outs m) c main_v1_1 = allSums c (V1 m c main_arg1) := by
  unfold V2
  rw [Function.update_self]
  show outs0 m 2 main_v1_1 c = _
  unfold outs0
  rw [Function.update_self]
theorem V4_result (c : Dev nD) : V4 m (outs m) c main_v3 = result m c := by
  unfold V4
  rw [Function.update_self]
  show outs m 4 main_v3 c = _
  unfold outs
  rw [if_neg (by decide), Function.update_self]

/-- The launch's ghost element: the pipeline library's, and nothing else. -/
def u₀ : UU := (initOf (Pipeline.cells cfgs cellOf_inj) (Pipeline.launchToks cfgs cellOf_inj), 1)

theorem hu₀ : (ownU u₀ : sProp 𝕄) ⊢ |={Set.univ}=> iprop(BI.own (EP (initOf (Pipeline.cells cfgs cellOf_inj) (Pipeline.launchToks cfgs cellOf_inj))) ∗ bigSep Finset.univ (fun _ : Dev nD => (BI.emp : sProp 𝕄))) := by
  unfold u₀
  iintro Hu
  ihave H := (ownU_pair _ _) $$ Hu
  icases H with ⟨HP, -⟩
  imodintro
  isplitl [HP]; · iexact HP
  iapply (show BI.emp ⊢ bigSep Finset.univ (fun _ : Dev nD => (BI.emp : sProp 𝕄)) from by rw [BI.bigSep_emp_const])
  iempintro

/-- Between two items every core owes nothing. -/
abbrev rest : Fin 3 → Dev nD → sProp 𝕄 := fun _ c => owing c

theorem launch_rest : iprop((bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ BI.emp)) ∗ levAts L lv)
      ⊢ (|={Set.univ}=> bigSep Finset.univ (rest (F := F) 0) : sProp 𝕄) := by
  have h : (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ BI.emp))
      ⊢ (bigSep Finset.univ (rest (F := F) 0) : sProp 𝕄) := bigSep_mono fun c _ => by
    show _ ⊢ owing c
    unfold owing
    iintro ⟨-, H, -⟩
    iexists ∅
    iexact H
  iintro ⟨H, -⟩
  imodintro
  iapply h; iexact H

/-- The copying kernel's region of this program. -/
def R0 := reg0 (vals (V1 m)) (vals (V3 m (outs m))) (vals (V2 m (outs m))) (fun c => V2_patches m c) (fun c => V2_sums m c) (fun c b h => V2_of m (outs m) c b h)
/-- The token kernel's. -/
def R1 := reg1 (vals (V1 m)) (vals (V3 m (outs m))) (vals (V4 m (outs m)))
  (fun c => by
    refine (V4_result m c).trans ?_
    unfold result
    rw [show vals (V3 m (outs m)) = vals (V3 m (outs0 m)) from funext fun c => funext fun b => congrFun (V3_outs m c) b])
  (fun c b h => V4_of m (outs m) c b h)

theorem held_vals (c : Dev nD) (W : Dev nD → Valuation τ sig (Elt F)) :
    (iprop(StableHlo.held (c : Thread nD τ) (Pipeline.ucRefs τ sig) (W c) ∗ owing c) : sProp 𝕄) = iprop(unscopedBufs c (vals W c) ∗ owing c) := by
  rw [← Pipeline.unscopedBufs_held (Ix := Unit) (Name := ℕ) (U := UU) (Lvl := ℕ) c (W c)]

theorem of_held (c : Dev nD) (W : Dev nD → Valuation τ sig (Elt F)) :
    (iprop(StableHlo.held (c : Thread nD τ) (Pipeline.ucRefs τ sig) (W c) ∗ owing c) : sProp 𝕄) ⊢ iprop(unscopedBufs c (vals W c) ∗ owing c) := by
  rw [held_vals]
theorem to_held (c : Dev nD) (W : Dev nD → Valuation τ sig (Elt F)) :
    (iprop(unscopedBufs c (vals W c) ∗ owing c) : sProp 𝕄) ⊢ iprop(StableHlo.held (c : Thread nD τ) (Pipeline.ucRefs τ sig) (W c) ∗ owing c) := by
  rw [held_vals]

set_option backward.isDefEq.respectTransparency.types false in
/-- Every weakly fair execution ends, with the arguments as launched, the output at `result`, every semaphore at zero. -/
theorem run :
    θ_run defs (onTc (τ := τ) (main (F := F))) ⟨m, fun _ => 0, ρ⟩ (fun r => (∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) adm (pdats (vals (V1 m)) (vals (V3 m (outs m)))) () cellOf_inj EP defs₀ 𝒱₀ L lv m ρ main
    (segs m (outs m) 𝒱₀ L lv rest () (pdats (vals (V1 m)) (vals (V3 m (outs m)))) (R0 m) (R1 m))
    (fun c Q => by
      rewrite [main_chain c, Seg.run_eq_chain,
        show (segs m (outs m) 𝒱₀ L lv rest () (pdats (vals (V1 m)) (vals (V3 m (outs m)))) (R0 m) (R1 m) c).map Seg.prog = [
          StableHlo.seq hostOps0,
          Prog.lift (.customCall (Pipeline.entry 0) ()),
          StableHlo.seq hostOps1,
          Prog.lift (.customCall (Pipeline.entry 1) ()) ] from rfl]
      exact BI.Entails.refl _)
    (fun c => by simp only [segs, Seg.pipes_host, Seg.pipes_region, Seg.pipes_nil]; decide) (fun _ => 0) (fun _ _ => rfl) (fun _ => BI.emp) u₀ hu₀
    (T₀ := fun c => iprop(StableHlo.held (c : Thread nD τ) (Pipeline.ucRefs τ sig) (V0 m c) ∗ rest 0 c))
    (Tₙ := fun c => StableHlo.held (c : Thread nD τ) (Pipeline.ucRefs τ sig) (V4 m (outs m) c))
    (hch := fun c => ⟨BI.Entails.refl _, of_held c (V1 m), to_held c (V2 m (outs m)), of_held c (V3 m (outs m)), to_held c (V4 m (outs m))⟩)
    (hinit := ?_)
    (QY := fun c s => s.mem ((c.tc : Thread nD τ).loc main_v3) = result m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · -- the launch hands every core its buffers at the launch contents
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ BI.emp)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · -- at the end every buffer is read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      have hr := fun (b : Ref sig .tc) (hb : b.isScoped = false) =>
        h (Proc.devRef .tc b) (Finset.mem_filter.mpr ⟨StableHlo.devRef_mem_tcRefs b, by simpa using hb⟩)
      exact ⟨(hr main_v3 rfl).trans (V4_result m c), (hr main_arg0 rfl).trans (V4_main_arg0 m (outs m) c), (hr main_arg1 rfl).trans (V4_main_arg1 m (outs m) c),
        (hr main_arg2 rfl).trans (V4_main_arg2 m (outs m) c), (hr main_arg3 rfl).trans (V4_main_arg3 m (outs m) c), (hr main_arg4 rfl).trans (V4_main_arg4 m (outs m) c)⟩
    · iexact HSI

end Run

end Cert.KernelIdeal.Hand

end

end
-- ==== Proof.SameText.lean ====
/-
  The program read at bit patterns is the same text as the program read at extended reals: what is proved of one text at
  every reading holds of the other.
-/
module

public import proofs.«01_k».proof.Defs
public import proofs.«01_k».proof.Proof.Gen.Kernel
public import proofs.«01_k».proof.Proof.WholeRun

@[expose] public section

noncomputable section

namespace Cert.Proof

open Idealize.ShloMosaic Idealize.SL.Sem

/-- The copying kernel is the same in both. -/
theorem copy_same : (@Cert.Kernel.cc0__copy_sum_body Bits _ _) = @Cert.KernelIdeal.cc0__copy_sum_body Bits _ _ := rfl

/-- The token kernel is the same in both. -/
theorem token_same : (@Cert.Kernel.cc1__token_body Bits _ _) = @Cert.KernelIdeal.cc1__token_body Bits _ _ := rfl

/-- The kernels' tables are the same, label by label. -/
theorem kernels_same : (Cert.Kernel.defs₀ (F := Bits)) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl
  | 1, (t, s) => rfl

/-- So are the tables with the pipelines around the kernels. -/
theorem tables_same : (Cert.Kernel.defs (F := Bits)) = Cert.KernelIdeal.defs (F := Bits) := by
  unfold Cert.Kernel.defs Cert.KernelIdeal.defs
  rw [kernels_same]
  rfl

/-- The program at bit patterns runs, leaves its arguments alone, and leaves every semaphore at zero. -/
theorem frame_kernel : Cert.quiescent_Kernel := fun m g _ => by
  rw [tables_same]
  exact (θ_run _ _ _).mono (fun r h => ⟨fun c => (h.1 c).2, h.2⟩) (Cert.KernelIdeal.Hand.run (F := Bits) m g)

/-- So does the program at extended reals. -/
theorem frame_kernelIdeal : Cert.quiescent_KernelIdeal := fun m g _ =>
  (θ_run _ _ _).mono (fun r h => ⟨fun c => (h.1 c).2, h.2⟩) (Cert.KernelIdeal.Hand.run (F := Ideal) m g)

end Cert.Proof

end
-- ==== Proof.ReferenceFrame.lean ====
/-
  The reference's frame: it launches no kernel, so it runs, leaves its arguments alone and touches no semaphore.
-/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments alone, and leaves every semaphore at zero. -/
theorem frame_referenceIdeal : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

end Cert.Proof

end
-- ==== Proof.GroupTable.lean ====
/-
  The table both programs compute, in plain sums: for each of the eight groups, the mean patch of the group's examples,
  sent through the linear layer.
-/
module

public import Idealize.ShloMosaic.PureOps
public import Idealize.ShloMosaic.PureOps.Ideal
public import Idealize.ShloMosaic.Lib.Pointwise

@[expose] public section

noncomputable section

namespace Cert.Proof

open Idealize.ShloMosaic

/-- The sum over the examples of group `g` of the patch sums `S`, at feature `x`. -/
def groupSum (cov : Fin 128 → BitVec 32) (S : Fin 128 → Fin 768 → EReal) (g : Fin 8) (x : Fin 768) : EReal :=
  ∑ b, if (cov b).toInt = (g.val : Int) then S b x else 0

/-- How many examples are in group `g`. -/
def groupSize (cov : Fin 128 → BitVec 32) (g : Fin 8) : EReal :=
  ∑ b, if (cov b).toInt = (g.val : Int) then 1 else 0

/-- The table's entry: the group's mean patch (an empty group counts as one example), times the weights, plus the bias. -/
def table (cov : Fin 128 → BitVec 32) (S : Fin 128 → Fin 768 → EReal) (W : Fin 768 → Fin 768 → EReal) (β : Fin 768 → EReal)
    (g : Fin 8) (k : Fin 768) : EReal :=
  (∑ x, Ideal.div (groupSum cov S g x) (max (groupSize cov g) 1 * Ideal.ofBits .f32 0x43440000#32) * W k x) + β k

/-- A one-hot entry: 1 where the index word is `g`, else 0. -/
theorem oneHot (w : BitVec 32) (g : Fin 8) :
    (FloatOps.sitofp (F := Ideal) FTy.f32 (BitVec.setWidth 32 (IntOp.cmpi CmpIPredicate.eq w (BitVec.ofNat 32 g.val))) : EReal)
      = if w.toInt = (g.val : Int) then 1 else 0 := by
  have hg := g.isLt
  have hw : w = BitVec.ofNat 32 g.val ↔ w.toInt = (g.val : Int) := by
    have e : (BitVec.ofNat 32 g.val).toInt = (g.val : Int) := by
      rw [BitVec.toInt_ofNat']
      simp [Int.bmod]
      omega
    constructor
    · rintro rfl; exact e
    · intro h; exact BitVec.eq_of_toInt_eq (h.trans e.symm)
  by_cases h : w = BitVec.ofNat 32 g.val
  · rw [if_pos (hw.1 h), h]
    show (((BitVec.setWidth 32 (IntOp.cmpi CmpIPredicate.eq (BitVec.ofNat 32 g.val) (BitVec.ofNat 32 g.val))).toInt : ℝ) : EReal) = 1
    have e : IntOp.cmpi CmpIPredicate.eq (BitVec.ofNat 32 g.val) (BitVec.ofNat 32 g.val) = 1#1 := by simp [IntOp.cmpi]
    rw [e]
    have e2 : (BitVec.setWidth 32 1#1).toInt = 1 := by decide
    rw [e2]; simp
  · rw [if_neg fun q => h (hw.2 q)]
    show (((BitVec.setWidth 32 (IntOp.cmpi CmpIPredicate.eq w (BitVec.ofNat 32 g.val))).toInt : ℝ) : EReal) = 0
    have e : IntOp.cmpi CmpIPredicate.eq w (BitVec.ofNat 32 g.val) = 0#1 := by
      show BitVec.ofBool (w == BitVec.ofNat 32 g.val) = 0#1
      rw [beq_eq_false_iff_ne.2 h]; rfl
    rw [e]
    have e2 : (BitVec.setWidth 32 0#1).toInt = 0 := by decide
    rw [e2]; simp

end Cert.Proof

end
-- ==== Proof.KernelToken.lean ====
/-
  The kernel's token at one element: the table's row the covariate picks.
-/
module

public import proofs.«01_k».proof.Proof.GroupTable
public import proofs.«01_k».proof.Proof.Gen.KernelIdeal.Skeleton

@[expose] public section

set_option maxRecDepth 16384

noncomputable section

namespace Cert.KernelIdeal.Hand

open Idealize.ShloMosaic Cert.KernelIdeal Cert.KernelIdeal.Gen
open Cert.Proof (groupSum groupSize table oneHot)
variable [Facts]
open Facts

/-- The token of an example of group `g`: the one-hot products pick row `g` of the table of group means. -/
theorem token_at (cov : IVec S1x128 32) (s : FVec Ideal S128x768 .f32) (W : FVec Ideal S768x768 .f32) (b : FVec Ideal S1x768 .f32)
    (a : Fin 128) (k : Fin 768) (g : Fin 8) (hg : cov (ix2 0 a) = BitVec.ofNat 32 g.val) :
    k1_pay1 (F := Ideal) cov s W b (ix2 a k)
      = table (fun e => cov (ix2 0 e)) (fun e x => s (ix2 e x)) (fun x y => W (ix2 x y)) (fun x => b (ix2 0 x)) g k := by
  have hin : (cov (ix2 0 a)).toInt = (g.val : Int) := by
    rw [hg]
    exact (by decide : ∀ g : Fin 8, (BitVec.ofNat 32 g.val).toInt = (g.val : Int)) g
  pointwise [k1_pay1]
  simp only [oneHot, ite_mul, one_mul, zero_mul]
  refine (Finset.sum_eq_single g (fun h _ hne => ?_) (fun h => absurd (Finset.mem_univ g) h)).trans ?_
  · refine if_neg fun e => hne (Fin.ext ?_)
    rw [hin] at e
    omega
  · rw [if_pos hin]
    rfl

end Cert.KernelIdeal.Hand

end
-- ==== Proof.KernelValue.lean ====
/-
  The kernel's result at one element: rows 1 to 196 are the patches, row 0 is the table's row the covariate picks.
-/
module

public import proofs.«01_k».proof.Proof.WholeRun
public import proofs.«01_k».proof.Proof.KernelToken
public import Idealize.ShloMosaic.Lib.Pointwise.IndexBridge
public import Idealize.ShloMosaic.Lib.StableHlo.Run

@[expose] public section

set_option maxRecDepth 16384

noncomputable section

namespace Cert.KernelIdeal.Hand

open Idealize.ShloMosaic Cert.KernelIdeal Cert.KernelIdeal.Gen
open Idealize.ShloMosaic.TcCoe
open Cert.Proof (table)

section Copy
variable (c : Dev nD) (X : FVec Ideal S128x196x768 .f32)

/-- Block `p` of the patches holds examples `8 p` to `8 p + 7`. -/
theorem xin_at (p : Fin 16) (a : Fin 8) (r : Fin 196) (k : Fin 768) :
    xin (F := Ideal) c X p (ix3 a r k) = X (ix3 (⟨8 * p.val + a.val, by have := a.isLt; have := p.isLt; omega⟩ : Fin 128) r k) := by
  show X ((inBlk p).view.emb (ix3 a r k)) = _
  refine congrArg X (funext fun d => ?_)
  match d with
  | ⟨0, _⟩ => exact Fin.ext (by show 8 * p.val + 1 * a.val = 8 * p.val + a.val; omega)
  | ⟨1, _⟩ => exact Fin.ext (by show 0 + 1 * r.val = r.val; omega)
  | ⟨2, _⟩ => exact Fin.ext (by show 0 + 1 * k.val = k.val; omega)

/-- The block and the place in it of example `a` give back example `a`. -/
theorem block_of (a : Fin 128) (h) : (⟨8 * (B (a.val / 8)).val + a.val % 8, h⟩ : Fin 128) = a := Fin.ext (by
  have := a.isLt
  show 8 * (a.val / 8 % 16) + a.val % 8 = a.val
  omega)

/-- The assembled rows 1 to 196 are the patches. -/
theorem assembled_at (a : Fin 128) (r : Fin 197) (k : Fin 768) (hr : ¬ r.val < 1) :
    assembled (F := Ideal) c X (ix3 a r k) = X (ix3 a ⟨r.val - 1, by omega⟩ k) := by
  have e : assembled (F := Ideal) c X (ix3 a r k)
      = stacked (xin (F := Ideal) c X (B (a.val / 8))) (ValueIdx.ix3 ⟨a.val % 8, Nat.mod_lt _ (by decide)⟩ r k) := rfl
  rw [e, stacked_row _ _ _ _ (by omega), ← ix3_eq_valueIdx, xin_at, block_of]

/-- The sums are over the 196 patches of the example. -/
theorem allSums_at (a : Fin 128) (k : Fin 768) : allSums (F := Ideal) c X (ix2 a k) = ∑ q : Fin 196, X (ix3 a q k) := by
  have e : allSums (F := Ideal) c X (ix2 a k)
      = rowSums (xin (F := Ideal) c X (B (a.val / 8))) (ix2 ⟨a.val % 8, Nat.mod_lt _ (by decide)⟩ k) := rfl
  rw [e]
  pointwise [rowSums]
  refine Finset.sum_congr rfl fun q _ => ?_
  rw [xin_at, block_of]

end Copy

variable (m : (ℓ : Loc nD τ sig) → Buf (Elt Ideal) ℓ) (c : Dev nD)

/-- The patches handed in. -/
abbrev patches : FVec Ideal S128x196x768 .f32 := m ((c : Thread nD τ).loc main_arg1)
/-- The covariates handed in. -/
abbrev covariates : IVec S128 32 := m ((c : Thread nD τ).loc main_arg2)
/-- The weights handed in. -/
abbrev weights : FVec Ideal S768x768 .f32 := m ((c : Thread nD τ).loc main_arg3)
/-- The bias handed in. -/
abbrev bias : FVec Ideal S768 .f32 := m ((c : Thread nD τ).loc main_arg4)

/-- The patches the copying kernel reads are the argument. -/
theorem V1_patches : V1 m c main_arg1 = m ((c : Thread nD τ).loc main_arg1) := V1_of m c main_arg1 (by decide)

/-- The token kernel reads the sums. -/
theorem V3_sums : V3 m (outs0 m) c main_v1_1 = allSums (F := Ideal) c (m ((c : Thread nD τ).loc main_arg1)) := by
  rw [V3_of m (outs0 m) c main_v1_1 (by decide), ← V2_outs, V2_sums, V1_patches]

/-- The token kernel reads the covariates as a row. -/
theorem V3_cov : V3 m (outs0 m) c main_v0 = shapeCast S1x128 (m ((c : Thread nD τ).loc main_arg2)) shapeCasts_S128_S1x128 := by
  rw [V3_of m (outs0 m) c main_v0 (by decide), V2_of m (outs0 m) c main_v0 (by decide)]
  rfl

/-- The token kernel reads the weights. -/
theorem V3_weights : V3 m (outs0 m) c main_arg3 = m ((c : Thread nD τ).loc main_arg3) := by
  rw [V3_of m (outs0 m) c main_arg3 (by decide), V2_of m (outs0 m) c main_arg3 (by decide), V1_of m c main_arg3 (by decide)]

/-- The token kernel reads the bias as a row. -/
theorem V3_bias : V3 m (outs0 m) c main_v2 = shapeCast S1x768 (m ((c : Thread nD τ).loc main_arg4)) shapeCasts_S768_S1x768 := by
  have e : V2 m (outs0 m) c main_arg4 = m ((c : Thread nD τ).loc main_arg4) := by
    rw [V2_of m (outs0 m) c main_arg4 (by decide), V1_of m c main_arg4 (by decide)]
  rw [← e]
  unfold V3
  after_results_simp <;> rfl

/-- The token kernel starts from the assembled rows. -/
theorem V3_rows : V3 m (outs0 m) c main_v3 = assembled (F := Ideal) c (m ((c : Thread nD τ).loc main_arg1)) := by
  rw [← V1_patches m c, ← V2_patches m c, V2_outs]
  unfold V3
  after_results_simp <;> rfl

/-- Where the tokens go: row 0. -/
theorem tok_emb (a : Fin 128) (k : Fin 768) : tokM.view.emb (ix2 a k) = (ix3 a 0 k : S128x197x768.Idx) := by
  have q : Shape.reshapeEquiv (s := S128x1x768) (s' := S128x768) squeezes_S128x1x768_S128x768.numel_eq (ix2 a k) = ix3 a 0 k := by pointwise
  show (resM.slice (Rect.unit (s := S128x197x768) ![0, 0, 0] S128x1x768.size inb_S128x197x768_S128x1x768_0_0_0) (fun _ => rfl)).view.emb
    (Shape.reshapeEquiv (s := S128x1x768) (s' := S128x768) squeezes_S128x1x768_S128x768.numel_eq (ix2 a k)) = _
  rw [q]
  funext d
  match d with
  | ⟨0, _⟩ => exact Fin.ext (by show 0 + 1 * a.val = a.val; omega)
  | ⟨1, _⟩ => exact Fin.ext (by show 0 + 1 * 0 = 0; omega)
  | ⟨2, _⟩ => exact Fin.ext (by show 0 + 1 * k.val = k.val; omega)

/-- The token kernel's block of sums is all of them. -/
theorem blk_sums (V : Vals (F := Ideal)) : iblk V c 0 t1_0 = V c main_v1_1 := by
  funext y
  show V c main_v1_1 (((cfg1.win 0).blk t1_0).view.emb y) = _
  refine congrArg (V c main_v1_1) (funext fun d => ?_)
  match d with
  | ⟨0, _⟩ => exact Fin.ext (by show 0 * 128 + 1 * (y 0).val = (y 0).val; omega)
  | ⟨1, _⟩ => exact Fin.ext (by show 0 * 768 + 1 * (y 1).val = (y 1).val; omega)

/-- The token kernel's block of covariates is all of them. -/
theorem blk_cov (V : Vals (F := Ideal)) : iblk V c 1 t1_0 = V c main_v0 := by
  funext y
  show V c main_v0 (((cfg1.win 1).blk t1_0).view.emb y) = _
  refine congrArg (V c main_v0) (funext fun d => ?_)
  match d with
  | ⟨0, _⟩ => exact Fin.ext (by show 0 * 1 + 1 * (y 0).val = (y 0).val; omega)
  | ⟨1, _⟩ => exact Fin.ext (by show 0 * 128 + 1 * (y 1).val = (y 1).val; omega)

/-- The token kernel's block of weights is all of them. -/
theorem blk_weights (V : Vals (F := Ideal)) : iblk V c 2 t1_0 = V c main_arg3 := by
  funext y
  show V c main_arg3 (((cfg1.win 2).blk t1_0).view.emb y) = _
  refine congrArg (V c main_arg3) (funext fun d => ?_)
  match d with
  | ⟨0, _⟩ => exact Fin.ext (by show 0 * 768 + 1 * (y 0).val = (y 0).val; omega)
  | ⟨1, _⟩ => exact Fin.ext (by show 0 * 768 + 1 * (y 1).val = (y 1).val; omega)

/-- The token kernel's block of the bias is all of it. -/
theorem blk_bias (V : Vals (F := Ideal)) : iblk V c 3 t1_0 = V c main_v2 := by
  funext y
  show V c main_v2 (((cfg1.win 3).blk t1_0).view.emb y) = _
  refine congrArg (V c main_v2) (funext fun d => ?_)
  match d with
  | ⟨0, _⟩ => exact Fin.ext (by show 0 * 1 + 1 * (y 0).val = (y 0).val; omega)
  | ⟨1, _⟩ => exact Fin.ext (by show 0 * 768 + 1 * (y 1).val = (y 1).val; omega)

/-- Rows 1 to 196 of the result are the patches. -/
theorem result_patch (a : Fin 128) (r : Fin 197) (k : Fin 768) (hr : ¬ r.val < 1) :
    result (F := Ideal) m c (ix3 a r k) = patches m c (ix3 a ⟨r.val - 1, by omega⟩ k) := by
  unfold result
  refine (withTokens_off (F := Ideal) c _ _ (ix3 a r k) fun h => ?_).trans ?_
  · obtain ⟨x, -, hx⟩ := Finset.mem_map.1 h
    obtain ⟨a', k', rfl⟩ : ∃ (a' : Fin 128) (k' : Fin 768), x = ix2 a' k' := ⟨x 0, x 1, eq_ix2 x⟩
    rw [tok_emb] at hx
    have h1 : (0 : Fin 197) = r := congrFun hx 1
    exact hr (by rw [← h1]; decide)
  · rw [V3_rows]
    exact assembled_at c _ a r k hr

/-- Row 0 of the output, read where it lies. -/
theorem row0_read (Z : FVec Ideal S128x197x768 .f32) (a : Fin 128) (k : Fin 768) :
    tokM.view.read (Elt Ideal) Z (ix2 a k) = Z (ix3 a 0 k) := by
  have e : tokM.view.emb (ix2 a k) = (ix3 a 0 k : S128x197x768.Idx) := tok_emb a k
  exact congrArg Z e

/-- Row 0 of what takes the tokens is the tokens. -/
theorem withTokens_row0 (A : Buf (Elt Ideal) (tokM.view.loc (c : Thread nD τ))) (w : FVec Ideal S128x768 .f32) (a : Fin 128) (k : Fin 768) :
    withTokens (F := Ideal) c A w (ix3 a 0 k : S128x197x768.Idx) = w (ix2 a k) := by
  have h : tokM.view.read (Elt Ideal) (withTokens (F := Ideal) c A w) = w := View.read_writes_whole (Val := Elt Ideal) tokM.view A w
  exact (row0_read (withTokens (F := Ideal) c A w) a k).symm.trans (congrFun h (ix2 a k))

/-- Row 0 of the result is the token. -/
theorem result_row0 (a : Fin 128) (k : Fin 768) :
    result (F := Ideal) m c (ix3 a 0 k) = tokens (vals (V3 m (outs0 m))) c (ix2 a k) := by
  unfold result
  exact withTokens_row0 c _ _ a k

/-- Row 0 of the result is the row of the table that the covariate picks. -/
theorem result_token (a : Fin 128) (k : Fin 768) (g : Fin 8)
    (hg : covariates m c (ix1 a) = BitVec.ofNat 32 g.val) :
    result (F := Ideal) m c (ix3 a 0 k)
      = table (fun e => covariates m c (ix1 e))
          (fun e x => ∑ q : Fin 196, patches m c (ix3 e q x))
          (fun x y => weights m c (ix2 x y))
          (fun x => bias m c (ix1 x)) g k := by
  have hc : ∀ e : Fin 128, (V3 m (outs0 m) c main_v0 : IVec S1x128 32) (ix2 0 e) = covariates m c (ix1 e) := fun e => by
    rw [V3_cov]; pointwise
  have hb : ∀ x : Fin 768, (V3 m (outs0 m) c main_v2 : FVec Ideal S1x768 .f32) (ix2 0 x) = bias m c (ix1 x) := fun x => by
    rw [V3_bias]; pointwise
  rw [result_row0]
  unfold tokens
  rw [blk_sums, blk_cov, blk_weights, blk_bias]
  refine (token_at _ _ _ _ a k g ((hc a).trans hg)).trans ?_
  have e1 : (fun e => (vals (V3 m (outs0 m)) c main_v0 : IVec S1x128 32) (ix2 0 e)) = fun e => covariates m c (ix1 e) := funext hc
  have e2 : (fun (e : Fin 128) (x : Fin 768) => (vals (V3 m (outs0 m)) c main_v1_1 : FVec Ideal S128x768 .f32) (ix2 e x))
      = fun e x => ∑ q : Fin 196, patches m c (ix3 e q x) := by
    funext e x
    show V3 m (outs0 m) c main_v1_1 (ix2 e x) = _
    rw [V3_sums]
    exact allSums_at c _ e x
  have e3 : (fun (x y : Fin 768) => (vals (V3 m (outs0 m)) c main_arg3 : FVec Ideal S768x768 .f32) (ix2 x y))
      = fun x y => weights m c (ix2 x y) := by
    funext x y
    exact congrFun (V3_weights m c) (ix2 x y)
  have e4 : (fun x => (vals (V3 m (outs0 m)) c main_v2 : FVec Ideal S1x768 .f32) (ix2 0 x)) = fun x => bias m c (ix1 x) := funext hb
  rw [e1, e2, e3, e4]

end Cert.KernelIdeal.Hand

end
-- ==== Proof.ReferenceTable.lean ====
/-
  The reference's lookups at one element: the sums scattered by group, the group sizes, and the row a covariate picks.
-/
module

public import proofs.«01_k».proof.Proof.Gen.ReferenceIdeal
public import proofs.«01_k».proof.Proof.Gen.ReferenceIdeal.Run
public import Idealize.ShloMosaic.Lib.Pointwise
public import Idealize.ShloMosaic.Lib.Pointwise.IndexBridge
public import Idealize.ShloMosaic.Lib.Routing.Ops
public import Idealize.ShloMosaic.Lib.Routing.OpsPair

@[expose] public section

set_option maxRecDepth 16384

noncomputable section

namespace Cert.ReferenceIdeal.Value

open Idealize.ShloMosaic Cert.ReferenceIdeal Cert.ReferenceIdeal.Gen
variable [Facts]
open Facts

/-- An example's row lands in group `g`, column `k`, exactly when its index word is `g` and its column is `k`. -/
theorem rows_land (idx : IVec S128x1 32) (b : Fin 128) (x : Fin 768) (g : Fin 8) (k : Fin 768) :
    scatter_S8x768_S128x1_S128x768_1_0_0_1.resultIdx? (ix2 b x) idx = some (ix2 g k) ↔ (idx (ix2 b 0)).toInt = (g.val : Int) ∧ x = k := by
  have hs : scatter_S8x768_S128x1_S128x768_1_0_0_1.siIdx (ix2 b x) ⟨0, by decide⟩ = ix2 b 0 := by
    funext a
    match a with
    | ⟨0, _⟩ => rfl
    | ⟨1, _⟩ => rfl
  have h0 : scatter_S8x768_S128x1_S128x768_1_0_0_1.start (ix2 b x) idx 0 = (idx (ix2 b 0)).toInt := by
    rw [← hs]; rfl
  have h1 : scatter_S8x768_S128x1_S128x768_1_0_0_1.start (ix2 b x) idx 1 = 0 := rfl
  have w0 : scatter_S8x768_S128x1_S128x768_1_0_0_1.window (ix2 b x) 0 = 0 := rfl
  have w1 : scatter_S8x768_S128x1_S128x768_1_0_0_1.window (ix2 b x) 1 = x.val := rfl
  rw [Routing.resultIdx?_eq_some]
  constructor
  · intro h
    have e0 := h 0
    have e1 := h 1
    rw [h0, w0] at e0
    rw [h1, w1] at e1
    change _ = (g.val : Int) at e0
    change _ = (k.val : Int) at e1
    exact ⟨by omega, Fin.ext (by omega)⟩
  · rintro ⟨e, rfl⟩ a
    match a with
    | ⟨0, _⟩ => exact (congrArg₂ (fun (p : Int) (q : Nat) => p + (q : Int)) h0 w0).trans (by rw [e]; show (g.val : Int) + ((0 : Nat) : Int) = g.val; omega)
    | ⟨1, _⟩ => exact (congrArg₂ (fun (p : Int) (q : Nat) => p + (q : Int)) h1 w1).trans (by show (0 : Int) + (x.val : Int) = x.val; omega)

/-- An example counts towards group `g` exactly when its index word is `g`. -/
theorem ones_land (idx : IVec S128x1 32) (b : Fin 128) (g : Fin 8) :
    scatter_S8_S128x1_S128_n_0_0_1.resultIdx? (ix1 b) idx = some (ix1 g) ↔ (idx (ix2 b 0)).toInt = (g.val : Int) := by
  have hs : scatter_S8_S128x1_S128_n_0_0_1.siIdx (ix1 b) ⟨0, by decide⟩ = ix2 b 0 := by
    funext a
    match a with
    | ⟨0, _⟩ => rfl
    | ⟨1, _⟩ => rfl
  have h0 : scatter_S8_S128x1_S128_n_0_0_1.start (ix1 b) idx 0 = (idx (ix2 b 0)).toInt := by
    rw [← hs]; rfl
  have w0 : scatter_S8_S128x1_S128_n_0_0_1.window (ix1 b) 0 = 0 := rfl
  rw [Routing.resultIdx?_eq_some]
  constructor
  · intro h
    have e0 := h 0
    rw [h0, w0] at e0
    change _ = (g.val : Int) at e0
    omega
  · intro e a
    match a with
    | ⟨0, _⟩ => exact (congrArg₂ (fun (p : Int) (q : Nat) => p + (q : Int)) h0 w0).trans (by rw [e]; show (g.val : Int) + ((0 : Nat) : Int) = g.val; omega)

/-- The rows summed by group, at group `g`, column `k`: the sum of the rows whose index word is `g`. -/
theorem rows_at (z : FVec Ideal S8x768 .f32) (idx : IVec S128x1 32) (u : FVec Ideal S128x768 .f32) (g : Fin 8) (k : Fin 768) :
    Host.scatterAdd scatter_S8x768_S128x1_S128x768_1_0_0_1 z idx u (ix2 g k)
      = z (ix2 g k) + ∑ b : Fin 128, if (idx (ix2 b 0)).toInt = (g.val : Int) then u (ix2 b k) else (0 : EReal) := by
  show z (ix2 g k) + ∑ j ∈ Finset.univ.filter (fun j => scatter_S8x768_S128x1_S128x768_1_0_0_1.resultIdx? j idx = some (ix2 g k)), u j = _
  rw [Finset.sum_filter, sum_idx2]
  refine congrArg (z (ix2 g k) + ·) (Finset.sum_congr rfl fun b _ => ?_)
  simp only [rows_land]
  by_cases h : (idx (ix2 b 0)).toInt = (g.val : Int)
  · simp [h]
  · simp [h]

/-- The ones summed by group, at group `g`. -/
theorem ones_at (z : FVec Ideal S8 .f32) (idx : IVec S128x1 32) (u : FVec Ideal S128 .f32) (g : Fin 8) :
    Host.scatterAdd scatter_S8_S128x1_S128_n_0_0_1 z idx u (ix1 g)
      = z (ix1 g) + ∑ b : Fin 128, if (idx (ix2 b 0)).toInt = (g.val : Int) then u (ix1 b) else (0 : EReal) := by
  show z (ix1 g) + ∑ j ∈ Finset.univ.filter (fun j => scatter_S8_S128x1_S128_n_0_0_1.resultIdx? j idx = some (ix1 g)), u j = _
  rw [Finset.sum_filter, sum_idx1]
  refine congrArg (z (ix1 g) + ·) (Finset.sum_congr rfl fun b _ => ?_)
  simp only [ones_land]

/-- The row picked by an index word in range. -/
theorem row_at (T : FVec Ideal S8x768 .f32) (idx : IVec S128x1 32) (a : Fin 128) (k : Fin 768) (g : Fin 8) (h : idx (ix2 a 0) = BitVec.ofNat 32 g.val) :
    Host.gather gather_S8x768_S128x1_S128x768_1_0_n_n_0_1_1768 T idx (ix2 a k) = T (ix2 g k) := by
  rw [ix2_eq_valueIdx, ix2_eq_valueIdx]
  rw [ix2_eq_valueIdx] at h
  exact Routing.gather_row gather_S8x768_S128x1_S128x768_1_0_n_n_0_1_1768 rfl rfl rfl rfl rfl T idx a k g h (by decide)

end Cert.ReferenceIdeal.Value

end
-- ==== Proof.ReferenceValue.lean ====
/-
  The reference's result at one element: row 0 is the table's row the covariate picks, the other rows are the patches.
-/
module

public import proofs.«01_k».proof.Proof.ReferenceTable
public import proofs.«01_k».proof.Proof.GroupTable

@[expose] public section

set_option maxRecDepth 16384

noncomputable section

namespace Cert.ReferenceIdeal.Value

open Idealize.ShloMosaic Cert.ReferenceIdeal Cert.ReferenceIdeal.Gen
variable [Facts]
open Facts

/-- The reference's result as a term of its arguments. -/
def refResult (X : FVec Ideal S128x196x768 .f32) (cov : IVec S128 32) (W : FVec Ideal S768x768 .f32) (b : FVec Ideal S768 .f32) :
    FVec Ideal S128x197x768 .f32 :=
  concatenate S128x197x768 1 [⟨S128x1x768, (broadcastInDim S128x1x768 ![0, 2] bcast_S128x768_S128x1x768_0_2 (select (broadcastInDim S128x768 ![0] bcast_S128_S128x768_0 (Host.reduce IntOp.andi (andi (cmpi .sge (broadcastInDim S128x1 ![0] bcast_S128_S128x1_0 (select (cmpi .slt cov (broadcastInDim S128 ![] bcast_S_S128 (constantI S_ 32 0#32))) (addi cov (broadcastInDim S128 ![] bcast_S_S128 (constantI S_ 32 8#32))) cov)) (broadcastInDim S128x1 ![] bcast_S_S128x1 (constantI S_ 32 0#32))) (cmpi .sle (broadcastInDim S128x1 ![0] bcast_S128_S128x1_0 (select (cmpi .slt cov (broadcastInDim S128 ![] bcast_S_S128 (constantI S_ 32 0#32))) (addi cov (broadcastInDim S128 ![] bcast_S_S128 (constantI S_ 32 8#32))) cov)) (broadcastInDim S128x1 ![0, 1] bcast_S1x1_S128x1_0_1 (broadcastInDim S1x1 ![1] bcast_S1_S1x1_1 (constantI S1 32 7#32))))) (constantI S_ 1 1#1) reducesTo_S128x1_S128_d1 h_S_)) (Host.gather gather_S8x768_S128x1_S128x768_1_0_n_n_0_1_1768 (addf (Host.dotGeneral dot_S8x768_S768x768_S8x768_1_0_0_1_n_n none (Host.divf (Host.scatterAdd scatter_S8x768_S128x1_S128x768_1_0_0_1 (broadcastInDim S8x768 ![] bcast_S_S8x768 (constant S_ .f32 0x00000000#32)) (broadcastInDim S128x1 ![0] bcast_S128_S128x1_0 cov) (Host.reduceAdd X (constant S_ .f32 0x00000000#32) reducesTo_S128x196x768_S128x768_d1 h_S_)) (broadcastInDim S8x768 ![0, 1] bcast_S8x1_S8x768_0_1 (mulf (broadcastInDim S8x1 ![0] bcast_S8_S8x1_0 (maximumf (Host.scatterAdd scatter_S8_S128x1_S128_n_0_0_1 (broadcastInDim S8 ![] bcast_S_S8 (constant S_ .f32 0x00000000#32)) (broadcastInDim S128x1 ![0] bcast_S128_S128x1_0 cov) (broadcastInDim S128 ![] bcast_S_S128 (constant S_ .f32 0x3F800000#32))) (broadcastInDim S8 ![] bcast_S_S8 (constant S_ .f32 0x3F800000#32)))) (broadcastInDim S8x1 ![] bcast_S_S8x1 (constant S_ .f32 0x43440000#32))))) (transpose S768x768 [1, 0] W transposes_S768x768_S768x768_1_0)) (broadcastInDim S8x768 ![0, 1] bcast_S1x768_S8x768_0_1 (broadcastInDim S1x768 ![1] bcast_S768_S1x768_1 b))) (broadcastInDim S128x1 ![0] bcast_S128_S128x1_0 (select (cmpi .slt cov (broadcastInDim S128 ![] bcast_S_S128 (constantI S_ 32 0#32))) (addi cov (broadcastInDim S128 ![] bcast_S_S128 (constantI S_ 32 8#32))) cov))) (broadcastInDim S128x768 ![] bcast_S_S128x768 (constant S_ .f32 0x7FC00000#32))))⟩, ⟨S128x196x768, X⟩] concatenates_S128x1x768_S128x196x768_S128x197x768_d1

/-- Rows 1 to 196 are the patches. -/
theorem ref_patch (X : FVec Ideal S128x196x768 .f32) (cov : IVec S128 32) (W : FVec Ideal S768x768 .f32) (b : FVec Ideal S768 .f32)
    (a : Fin 128) (r : Fin 197) (k : Fin 768) (hr : ¬ r.val < 1) :
    refResult X cov W b (ix3 a r k) = X (ix3 a ⟨r.val - 1, by omega⟩ k) := by
  pointwise [refResult]
  rw [dif_neg hr]

/-- Row 0 is the row of the table that the covariate picks. -/
theorem ref_token (X : FVec Ideal S128x196x768 .f32) (cov : IVec S128 32) (W : FVec Ideal S768x768 .f32) (b : FVec Ideal S768 .f32)
    (a : Fin 128) (r : Fin 197) (k : Fin 768) (hr : r.val < 1) (g : Fin 8) (hg : cov (ix1 a) = BitVec.ofNat 32 g.val) :
    refResult X cov W b (ix3 a r k)
      = Cert.Proof.table (fun e => cov (ix1 e)) (fun e x => ∑ q : Fin 196, X (ix3 e q x)) (fun x y => W (ix2 x y)) (fun x => b (ix1 x)) g k := by
  pointwise [refResult]
  rw [dif_pos hr, hg]
  have hs : ∀ g : Fin 8, Scalar.select (IntOp.cmpi CmpIPredicate.slt (BitVec.ofNat 32 g.val) 0#32) (IntOp.addi (BitVec.ofNat 32 g.val) 8#32) (BitVec.ofNat 32 g.val)
      = BitVec.ofNat 32 g.val := by decide
  have hm : ∀ g : Fin 8, Finset.fold IntOp.andi (1#1) (fun _ : Fin 1 => IntOp.andi (IntOp.cmpi CmpIPredicate.sge (BitVec.ofNat 32 g.val) 0#32)
      (IntOp.cmpi CmpIPredicate.sle (BitVec.ofNat 32 g.val) 7#32)) Finset.univ = 1#1 := by decide
  rw [hs, hm, row_at _ _ a k g]
  · pointwise [rows_at, ones_at]
    rfl
  · pointwise
    rw [hg]
    exact hs g

end Cert.ReferenceIdeal.Value

end
-- ==== Proof.Agree.lean ====
/-
  The two programs agree: with every covariate in 0 to 7, the kernel's result is the reference's.
-/
module

public import proofs.«01_k».proof.Defs
public import proofs.«01_k».proof.Proof.KernelValue
public import proofs.«01_k».proof.Proof.ReferenceValue

@[expose] public section

set_option maxRecDepth 16384

noncomputable section

namespace Cert.Proof

open Idealize.ShloMosaic Idealize.SL.Sem

/-- The precondition's operations fit their shapes. -/
theorem pre_facts : Cert.Pre_covariates_in_range.Facts := ⟨by decide⟩

/-- A word between 0 and 7 is one of the eight group numbers. -/
theorem group_of (w : BitVec 32) (h : IntOp.andi (IntOp.cmpi .sge w 0#32) (IntOp.cmpi .slt w 8#32) = 1#1) :
    ∃ g : Fin 8, w = BitVec.ofNat 32 g.val := by
  have h1 : BitVec.ofBool ((0#32).sle w) &&& BitVec.ofBool (w.slt 8#32) = 1#1 := h
  have h2 : (0#32).sle w = true ∧ w.slt 8#32 = true := by
    revert h1
    cases (0#32).sle w <;> cases w.slt 8#32 <;> decide
  have a1 : 0 ≤ w.toInt := by
    have := BitVec.sle_iff_toInt_le.1 h2.1
    simpa using this
  have a2 : w.toInt < 8 := by
    have := BitVec.slt_iff_toInt_lt.1 h2.2
    have e : (8#32).toInt = 8 := by decide
    omega
  refine ⟨⟨w.toInt.toNat, by omega⟩, BitVec.eq_of_toInt_eq ?_⟩
  show w.toInt = (BitVec.ofNat 32 w.toInt.toNat).toInt
  have e : ∀ g : Fin 8, (BitVec.ofNat 32 g.val).toInt = (g.val : Int) := by decide
  rw [e ⟨w.toInt.toNat, by omega⟩]
  show w.toInt = (w.toInt.toNat : Int)
  omega

/-- With the covariates in range, the kernel's result is the reference's term of the same arguments. -/
theorem results_agree (m : (ℓ : Loc Cert.KernelIdeal.nD Cert.KernelIdeal.τ Cert.KernelIdeal.sig) → Buf (Elt Ideal) ℓ)
    (c : Dev Cert.KernelIdeal.nD) (h : ∀ a : Fin 128, ∃ g : Fin 8, Cert.KernelIdeal.Hand.covariates m c (ix1 a) = BitVec.ofNat 32 g.val) :
    Cert.ReferenceIdeal.Value.refResult (Cert.KernelIdeal.Hand.patches m c) (Cert.KernelIdeal.Hand.covariates m c)
      (Cert.KernelIdeal.Hand.weights m c) (Cert.KernelIdeal.Hand.bias m c) = Cert.KernelIdeal.Hand.result (F := Ideal) m c := by
  funext y
  obtain ⟨a, r, k, rfl⟩ : ∃ (a : Fin 128) (r : Fin 197) (k : Fin 768), y = ix3 a r k := ⟨y 0, y 1, y 2, eq_ix3 y⟩
  by_cases hr : r.val < 1
  · obtain ⟨g, hg⟩ := h a
    obtain rfl : r = 0 := Fin.ext (by show r.val = 0; omega)
    exact (Cert.ReferenceIdeal.Value.ref_token _ _ _ _ a 0 k hr g hg).trans (Cert.KernelIdeal.Hand.result_token m c a k g hg).symm
  · exact (Cert.ReferenceIdeal.Value.ref_patch _ _ _ _ a r k hr).trans (Cert.KernelIdeal.Hand.result_patch m c a r k hr).symm

/-- What the precondition says of each covariate. -/
theorem covariates_of_pre [Cert.Pre_covariates_in_range.Facts]
    (m : (ℓ : Loc Cert.KernelIdeal.nD Cert.KernelIdeal.τ Cert.KernelIdeal.sig) → Buf (Elt Ideal) ℓ)
    (h : Cert.Pre_KernelIdeal_covariates_in_range m) (c : Dev Cert.KernelIdeal.nD) (a : Fin 128) :
    ∃ g : Fin 8, Cert.KernelIdeal.Hand.covariates m c (ix1 a) = BitVec.ofNat 32 g.val := by
  have q := congrFun (h c) (ix1 a)
  refine group_of _ ?_
  pointwise [Cert.Pre_covariates_in_range.fn] at q
  exact q

/-- Under the precondition the two programs end with equal results. -/
theorem algebraic [Cert.Pre_covariates_in_range.Facts] : Cert.algebraic_KernelIdeal_ReferenceIdeal_pre_covariates_in_range :=
  fun m g m' g' hpre hargs => by
    refine ⟨fun c => Cert.KernelIdeal.Hand.result (F := Ideal) m c,
      (θ_run _ _ _).mono (fun r h c => h.1 c) (Cert.KernelIdeal.Hand.run (F := Ideal) m g),
      (θ_run _ _ _).mono (fun r h c => ?_) (Cert.ReferenceIdeal.Value.run (F := Ideal) m' g')⟩
    obtain ⟨hv, hrest⟩ := h c
    refine ⟨hv.trans ?_, hrest⟩
    obtain ⟨-, e1, e2, e3, e4⟩ := hargs c
    rw [e1, e2, e3, e4]
    exact results_agree m c (covariates_of_pre m hpre c)

end Cert.Proof

end
-- ==== Proof.lean ====
/-
  The certificate's claims, from the runs of the two programs.
-/
module

public import proofs.«01_k».proof.Defs
public import proofs.«01_k».proof.Proof.SameText
public import proofs.«01_k».proof.Proof.ReferenceFrame
public import proofs.«01_k».proof.Proof.Agree

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, pre_facts,
  frame_kernel, frame_kernelIdeal, fun m g _ => frame_kernelIdeal m g trivial,
  frame_referenceIdeal, fun m g _ => frame_referenceIdeal m g trivial, trivial,
  haveI := pre_facts; algebraic⟩

end Cert.Proof

end
